-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_are_scales [hPre_scales_are_scales : Cert.Pre_scales_are_scales.Facts] (m : (ℓ : Loc Cert.KernelIdeal.nD Cert.KernelIdeal.τ Cert.KernelIdeal.sig) → Buf (Elt Ideal) ℓ) : Prop :=
  ∀ c : Dev Cert.KernelIdeal.nD,
    (Cert.Pre_scales_are_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_are_scales [hPre_scales_are_scales : Cert.Pre_scales_are_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_are_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_scales_are_scales [hKernelIdeal : Cert.KernelIdeal.Facts] [hPre_scales_are_scales : Cert.Pre_scales_are_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_are_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_scales_are_scales [hReferenceIdeal : Cert.ReferenceIdeal.Facts] [hPre_scales_are_scales : Cert.Pre_scales_are_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_are_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_scales_are_scales [hKernelIdeal : Cert.KernelIdeal.Facts] [hReferenceIdeal : Cert.ReferenceIdeal.Facts] [hPre_scales_are_scales : Cert.Pre_scales_are_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_are_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_scales_are_scales : Cert.Pre_scales_are_scales.Facts),
    quiescent_Kernel (hKernel := hKernel)
    ∧ quiescent_KernelIdeal (hKernelIdeal := hKernelIdeal)
    ∧ quiescent_KernelIdeal_pre_scales_are_scales (hKernelIdeal := hKernelIdeal) (hPre_scales_are_scales := hPre_scales_are_scales)
    ∧ quiescent_ReferenceIdeal (hReferenceIdeal := hReferenceIdeal)
    ∧ quiescent_ReferenceIdeal_pre_scales_are_scales (hReferenceIdeal := hReferenceIdeal) (hPre_scales_are_scales := hPre_scales_are_scales)
    ∧ preserves_Kernel_KernelIdeal
    ∧ algebraic_KernelIdeal_ReferenceIdeal_pre_scales_are_scales (hKernelIdeal := hKernelIdeal) (hReferenceIdeal := hReferenceIdeal) (hPre_scales_are_scales := hPre_scales_are_scales)
-- ==== Pre_scales_are_scales.lean ====
abbrev S1100x2x16x512 : Shape := ⟨4, ![1100, 2, 16, 512]⟩
abbrev S1100x2x16x64 : Shape := ⟨4, ![1100, 2, 16, 64]⟩
abbrev S1100x2x512 : Shape := ⟨3, ![1100, 2, 512]⟩
abbrev S1100x2x64 : Shape := ⟨3, ![1100, 2, 64]⟩
abbrev S1100x640x512 : Shape := ⟨3, ![1100, 640, 512]⟩
abbrev S1100x640x4 : Shape := ⟨3, ![1100, 640, 4]⟩
abbrev S1100x640x64 : Shape := ⟨3, ![1100, 640, 64]⟩
abbrev S1100 : Shape := ⟨1, ![1100]⟩
abbrev S_ : Shape := ⟨0, ![]⟩

class Facts : Prop where
  bcast_S_S1100x640x4 : S_.BroadcastsInDim S1100x640x4 (![] : Fin 0 → Fin S1100x640x4.rank)

variable [Facts]

def fn {F : FTy → Type} [FloatOps F] (main_arg0 : FVec F S1100x2x16x512 .bf16) (main_arg1 : FVec F S1100x2x16x64 .bf16) (main_arg2 : FVec F S1100x2x512 .bf16) (main_arg3 : FVec F S1100x2x64 .bf16) (main_arg4 : FVec F S1100x640x512 .fp8e4m3) (main_arg5 : FVec F S1100x640x4 .f32) (main_arg6 : FVec F S1100x640x64 .bf16) (main_arg7 : IVec S1100 32) : IVec S1100x640x4 1 :=
  let main_cst : FVec F S_ .f32 := constant S_ .f32 0x00000000#32
  let main_v0 : FVec F S1100x640x4 .f32 := broadcastInDim S1100x640x4 ![] bcast_S_S1100x640x4 main_cst
  let main_v1 : IVec S1100x640x4 1 := cmpf .oge main_arg5 main_v0
  let main_cst_0 : FVec F S_ .f32 := constant S_ .f32 0x7F800000#32
  let main_v2 : FVec F S1100x640x4 .f32 := broadcastInDim S1100x640x4 ![] bcast_S_S1100x640x4 main_cst_0
  let main_v3 : IVec S1100x640x4 1 := cmpf .olt main_arg5 main_v2
  let main_v4 : IVec S1100x640x4 1 := andi main_v1 main_v3
  main_v4
-- ==== Kernel.lean ====
abbrev S1100x2x16x512 : Shape := ⟨4, ![1100, 2, 16, 512]⟩
abbrev S1100x2x16x64 : Shape := ⟨4, ![1100, 2, 16, 64]⟩
abbrev S1100x2x512 : Shape := ⟨3, ![1100, 2, 512]⟩
abbrev S1100x2x64 : Shape := ⟨3, ![1100, 2, 64]⟩
abbrev S1100x640x512 : Shape := ⟨3, ![1100, 640, 512]⟩
abbrev S1100x640x4 : Shape := ⟨3, ![1100, 640, 4]⟩
abbrev S1100x640x64 : Shape := ⟨3, ![1100, 640, 64]⟩
abbrev S1100 : Shape := ⟨1, ![1100]⟩
abbrev S1100x32x512 : Shape := ⟨3, ![1100, 32, 512]⟩
abbrev S1100x32x64 : Shape := ⟨3, ![1100, 32, 64]⟩
abbrev S110x20x512 : Shape := ⟨3, ![110, 20, 512]⟩
abbrev S110x20x64 : Shape := ⟨3, ![110, 20, 64]⟩
abbrev S1100x4x640 : Shape := ⟨3, ![1100, 4, 640]⟩
abbrev S1100x64x640 : Shape := ⟨3, ![1100, 64, 640]⟩
abbrev S10x32x512 : Shape := ⟨3, ![10, 32, 512]⟩
abbrev S10x32x64 : Shape := ⟨3, ![10, 32, 64]⟩
abbrev S1x20x512 : Shape := ⟨3, ![1, 20, 512]⟩
abbrev S1x20x64 : Shape := ⟨3, ![1, 20, 64]⟩
abbrev S10x640x512 : Shape := ⟨3, ![10, 640, 512]⟩
abbrev S10x4x640 : Shape := ⟨3, ![10, 4, 640]⟩
abbrev S10x64x640 : Shape := ⟨3, ![10, 64, 640]⟩
abbrev S32x128 : Shape := ⟨2, ![32, 128]⟩
abbrev S32x640 : Shape := ⟨2, ![32, 640]⟩
abbrev S32x20 : Shape := ⟨2, ![32, 20]⟩
abbrev S20x512 : Shape := ⟨2, ![20, 512]⟩
abbrev S1x32x512 : Shape := ⟨3, ![1, 32, 512]⟩
abbrev S32x512 : Shape := ⟨2, ![32, 512]⟩
abbrev S1x32x64 : Shape := ⟨3, ![1, 32, 64]⟩
abbrev S32x64 : Shape := ⟨2, ![32, 64]⟩
abbrev S1x64x640 : Shape := ⟨3, ![1, 64, 640]⟩
abbrev S64x640 : Shape := ⟨2, ![64, 640]⟩
abbrev S32x256 : Shape := ⟨2, ![32, 256]⟩
abbrev S64x256 : Shape := ⟨2, ![64, 256]⟩
abbrev S1x640x256 : Shape := ⟨3, ![1, 640, 256]⟩
abbrev S640x256 : Shape := ⟨2, ![640, 256]⟩
abbrev S1x1x640 : Shape := ⟨3, ![1, 1, 640]⟩
abbrev S1x640 : Shape := ⟨2, ![1, 640]⟩
abbrev S1 : Shape := ⟨1, ![1]⟩
abbrev S20x64 : Shape := ⟨2, ![20, 64]⟩
abbrev S32 : Shape := ⟨1, ![32]⟩
abbrev S32x1 : Shape := ⟨2, ![32, 1]⟩
abbrev S1x2x640 : Shape := ⟨3, ![1, 2, 640]⟩
abbrev S2x640 : Shape := ⟨2, ![2, 640]⟩
abbrev S1x32x128 : Shape := ⟨3, ![1, 32, 128]⟩

abbrev nBuf : Space → Nat
  | .hbm => 15
  | .vmem => 16
  | .smem => 1
  | _ => 0

abbrev bufTy : (tb : Table) → Fin (tcTables nBuf tb) → BufTy
  | .hbm, ⟨0, _⟩ => ⟨S1100x2x16x512, .bf16⟩
  | .hbm, ⟨1, _⟩ => ⟨S1100x2x16x64, .bf16⟩
  | .hbm, ⟨2, _⟩ => ⟨S1100x2x512, .bf16⟩
  | .hbm, ⟨3, _⟩ => ⟨S1100x2x64, .bf16⟩
  | .hbm, ⟨4, _⟩ => ⟨S1100x640x512, .fp8e4m3⟩
  | .hbm, ⟨5, _⟩ => ⟨S1100x640x4, .f32⟩
  | .hbm, ⟨6, _⟩ => ⟨S1100x640x64, .bf16⟩
  | .hbm, ⟨7, _⟩ => ⟨S1100x32x512, .bf16⟩
  | .hbm, ⟨8, _⟩ => ⟨S1100x32x64, .bf16⟩
  | .hbm, ⟨9, _⟩ => ⟨S110x20x512, .bf16⟩
  | .hbm, ⟨10, _⟩ => ⟨S110x20x64, .bf16⟩
  | .hbm, ⟨11, _⟩ => ⟨S1100x4x640, .f32⟩
  | .hbm, ⟨12, _⟩ => ⟨S1100x64x640, .bf16⟩
  | .hbm, ⟨13, _⟩ => ⟨S1100x32x512, .bf16⟩
  | .hbm, ⟨14, _⟩ => ⟨S1100x2x16x512, .bf16⟩
  | .local _ .vmem, ⟨0, _⟩ => ⟨S10x32x512, .bf16⟩
  | .local _ .vmem, ⟨1, _⟩ => ⟨S10x32x512, .bf16⟩
  | .local _ .vmem, ⟨2, _⟩ => ⟨S10x32x64, .bf16⟩
  | .local _ .vmem, ⟨3, _⟩ => ⟨S10x32x64, .bf16⟩
  | .local _ .vmem, ⟨4, _⟩ => ⟨S1x20x512, .bf16⟩
  | .local _ .vmem, ⟨5, _⟩ => ⟨S1x20x512, .bf16⟩
  | .local _ .vmem, ⟨6, _⟩ => ⟨S1x20x64, .bf16⟩
  | .local _ .vmem, ⟨7, _⟩ => ⟨S1x20x64, .bf16⟩
  | .local _ .vmem, ⟨8, _⟩ => ⟨S10x640x512, .fp8e4m3⟩
  | .local _ .vmem, ⟨9, _⟩ => ⟨S10x640x512, .fp8e4m3⟩
  | .local _ .vmem, ⟨10, _⟩ => ⟨S10x4x640, .f32⟩
  | .local _ .vmem, ⟨11, _⟩ => ⟨S10x4x640, .f32⟩
  | .local _ .vmem, ⟨12, _⟩ => ⟨S10x64x640, .bf16⟩
  | .local _ .vmem, ⟨13, _⟩ => ⟨S10x64x640, .bf16⟩
  | .local _ .vmem, ⟨14, _⟩ => ⟨S10x32x512, .bf16⟩
  | .local _ .vmem, ⟨15, _⟩ => ⟨S10x32x512, .bf16⟩
  | .local _ .smem, ⟨0, _⟩ => ⟨S1100, .i32⟩
  | _, _ => ⟨S1100x2x16x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![110], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_32 : BitVec 32) : Fin 1 → Nat :=
  let arg0 : BitVec 32 := BitVec.ofNat 32 (i 0).val
  let c10_i32 : BitVec 32 := 10#32
  let v77 : BitVec 32 := Scalar.muli arg0 c10_i32
  let v78 : BitVec 32 := Scalar.addi v77 c0_i32_32
  let v79 : Index := Scalar.indexCast v78
  ![v79.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10x32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10x32x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x20x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x20x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10x640x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S10x4x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S10x64x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S10x32x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1100x2x16x512 : Shape := ⟨4, ![1100, 2, 16, 512]⟩
abbrev S1100x2x16x64 : Shape := ⟨4, ![1100, 2, 16, 64]⟩
abbrev S1100x2x512 : Shape := ⟨3, ![1100, 2, 512]⟩
abbrev S1100x2x64 : Shape := ⟨3, ![1100, 2, 64]⟩
abbrev S1100x640x512 : Shape := ⟨3, ![1100, 640, 512]⟩
abbrev S1100x640x4 : Shape := ⟨3, ![1100, 640, 4]⟩
abbrev S1100x640x64 : Shape := ⟨3, ![1100, 640, 64]⟩
abbrev S1100 : Shape := ⟨1, ![1100]⟩
abbrev S1100x640x4x128 : Shape := ⟨4, ![1100, 640, 4, 128]⟩
abbrev S1100x640x4x1 : Shape := ⟨4, ![1100, 640, 4, 1]⟩
abbrev S1100x2x16x640 : Shape := ⟨4, ![1100, 2, 16, 640]⟩
abbrev S_ : Shape := ⟨0, ![]⟩
abbrev S1100x2x16x2 : Shape := ⟨4, ![1100, 2, 16, 2]⟩
abbrev S640 : Shape := ⟨1, ![640]⟩
abbrev S1x640 : Shape := ⟨2, ![1, 640]⟩
abbrev S1100x1 : Shape := ⟨2, ![1100, 1]⟩
abbrev S1100x640 : Shape := ⟨2, ![1100, 640]⟩
abbrev S1100x1x1x640 : Shape := ⟨4, ![1100, 1, 1, 640]⟩
abbrev S2 : Shape := ⟨1, ![2]⟩
abbrev S2x1 : Shape := ⟨2, ![2, 1]⟩
abbrev S1x2 : Shape := ⟨2, ![1, 2]⟩
abbrev S2x2 : Shape := ⟨2, ![2, 2]⟩
abbrev S1x2x1x2 : Shape := ⟨4, ![1, 2, 1, 2]⟩
abbrev S1100x2x16x642 : Shape := ⟨4, ![1100, 2, 16, 642]⟩
abbrev S1100x2x16 : Shape := ⟨3, ![1100, 2, 16]⟩
abbrev S1100x2x16x1 : Shape := ⟨4, ![1100, 2, 16, 1]⟩

abbrev nBuf : Space → Nat
  | .hbm => 73
  | .vmem => 3
  | .smem => 0
  | _ => 0

abbrev bufTy : (tb : Table) → Fin (tcTables nBuf tb) → BufTy
  | .hbm, ⟨0, _⟩ => ⟨S1100x2x16x512, .bf16⟩
  | .hbm, ⟨1, _⟩ => ⟨S1100x2x16x64, .bf16⟩
  | .hbm, ⟨2, _⟩ => ⟨S1100x2x512, .bf16⟩
  | .hbm, ⟨3, _⟩ => ⟨S1100x2x64, .bf16⟩
  | .hbm, ⟨4, _⟩ => ⟨S1100x640x512, .fp8e4m3⟩
  | .hbm, ⟨5, _⟩ => ⟨S1100x640x4, .f32⟩
  | .hbm, ⟨6, _⟩ => ⟨S1100x640x64, .bf16⟩
  | .hbm, ⟨7, _⟩ => ⟨S1100, .i32⟩
  | .hbm, ⟨8, _⟩ => ⟨S1100x640x512, .bf16⟩
  | .hbm, ⟨9, _⟩ => ⟨S1100x2x16x640, .f32⟩
  | .hbm, ⟨10, _⟩ => ⟨S1100x2x16x640, .f32⟩
  | .hbm, ⟨11, _⟩ => ⟨S1100x2x16x640, .f32⟩
  | .hbm, ⟨12, _⟩ => ⟨S_, .f32⟩
  | .hbm, ⟨13, _⟩ => ⟨S1100x2x16x640, .f32⟩
  | .hbm, ⟨14, _⟩ => ⟨S1100x2x16x640, .f32⟩
  | .hbm, ⟨15, _⟩ => ⟨S1100x2x16x2, .f32⟩
  | .hbm, ⟨16, _⟩ => ⟨S1100x2x16x2, .f32⟩
  | .hbm, ⟨17, _⟩ => ⟨S1100x2x16x2, .f32⟩
  | .hbm, ⟨18, _⟩ => ⟨S_, .f32⟩
  | .hbm, ⟨19, _⟩ => ⟨S1100x2x16x2, .f32⟩
  | .hbm, ⟨20, _⟩ => ⟨S1100x2x16x2, .f32⟩
  | .hbm, ⟨21, _⟩ => ⟨S640, .i32⟩
  | .hbm, ⟨22, _⟩ => ⟨S1x640, .i32⟩
  | .hbm, ⟨23, _⟩ => ⟨S1100x1, .i32⟩
  | .hbm, ⟨24, _⟩ => ⟨S1100x640, .i32⟩
  | .hbm, ⟨25, _⟩ => ⟨S1100x640, .i32⟩
  | .hbm, ⟨26, _⟩ => ⟨S1100x640, .i1⟩
  | .hbm, ⟨27, _⟩ => ⟨S1100x1x1x640, .i1⟩
  | .hbm, ⟨28, _⟩ => ⟨S_, .f32⟩
  | .hbm, ⟨29, _⟩ => ⟨S_, .f32⟩
  | .hbm, ⟨30, _⟩ => ⟨S1100x2x16x640, .i1⟩
  | .hbm, ⟨31, _⟩ => ⟨S1100x2x16x640, .f32⟩
  | .hbm, ⟨32, _⟩ => ⟨S1100x2x16x640, .f32⟩
  | .hbm, ⟨33, _⟩ => ⟨S2, .i32⟩
  | .hbm, ⟨34, _⟩ => ⟨S2x1, .i32⟩
  | .hbm, ⟨35, _⟩ => ⟨S2, .i32⟩
  | .hbm, ⟨36, _⟩ => ⟨S1x2, .i32⟩
  | .hbm, ⟨37, _⟩ => ⟨S2x2, .i32⟩
  | .hbm, ⟨38, _⟩ => ⟨S2x2, .i32⟩
  | .hbm, ⟨39, _⟩ => ⟨S2x2, .i1⟩
  | .hbm, ⟨40, _⟩ => ⟨S1x2x1x2, .i1⟩
  | .hbm, ⟨41, _⟩ => ⟨S_, .f32⟩
  | .hbm, ⟨42, _⟩ => ⟨S_, .f32⟩
  | .hbm, ⟨43, _⟩ => ⟨S1100x2x16x2, .i1⟩
  | .hbm, ⟨44, _⟩ => ⟨S1100x2x16x2, .f32⟩
  | .hbm, ⟨45, _⟩ => ⟨S1100x2x16x2, .f32⟩
  | .hbm, ⟨46, _⟩ => ⟨S1100x2x16x642, .f32⟩
  | .hbm, ⟨47, _⟩ => ⟨S_, .f32⟩
  | .hbm, ⟨48, _⟩ => ⟨S1100x2x16, .f32⟩
  | .hbm, ⟨49, _⟩ => ⟨S1100x2x16x1, .f32⟩
  | .hbm, ⟨50, _⟩ => ⟨S1100x2x16x642, .f32⟩
  | .hbm, ⟨51, _⟩ => ⟨S1100x2x16x642, .f32⟩
  | .hbm, ⟨52, _⟩ => ⟨S1100x2x16x642, .f32⟩
  | .hbm, ⟨53, _⟩ => ⟨S_, .f32⟩
  | .hbm, ⟨54, _⟩ => ⟨S1100x2x16, .f32⟩
  | .hbm, ⟨55, _⟩ => ⟨S1100x2x16x1, .f32⟩
  | .hbm, ⟨56, _⟩ => ⟨S_, .f32⟩
  | .hbm, ⟨57, _⟩ => ⟨S1100x2x16x1, .f32⟩
  | .hbm, ⟨58, _⟩ => ⟨S1100x2x16x1, .i1⟩
  | .hbm, ⟨59, _⟩ => ⟨S1100x2x16x642, .f32⟩
  | .hbm, ⟨60, _⟩ => ⟨S1100x2x16x642, .f32⟩
  | .hbm, ⟨61, _⟩ => ⟨S_, .f32⟩
  | .hbm, ⟨62, _⟩ => ⟨S_, .f32⟩
  | .hbm, ⟨63, _⟩ => ⟨S1100x2x16x642, .i1⟩
  | .hbm, ⟨64, _⟩ => ⟨S1100x2x16x642, .f32⟩
  | .hbm, ⟨65, _⟩ => ⟨S1100x2x16x642, .f32⟩
  | .hbm, ⟨66, _⟩ => ⟨S1100x2x16x642, .bf16⟩
  | .hbm, ⟨67, _⟩ => ⟨S1100x2x16x640, .bf16⟩
  | .hbm, ⟨68, _⟩ => ⟨S1100x2x16x2, .bf16⟩
  | .hbm, ⟨69, _⟩ => ⟨S1100x2x16x512, .f32⟩
  | .hbm, ⟨70, _⟩ => ⟨S1100x2x16x512, .f32⟩
  | .hbm, ⟨71, _⟩ => ⟨S1100x2x16x512, .f32⟩
  | .hbm, ⟨72, _⟩ => ⟨S1100x2x16x512, .bf16⟩
  | .local _ .vmem, ⟨0, _⟩ => ⟨S1100x640x512, .fp8e4m3⟩
  | .local _ .vmem, ⟨1, _⟩ => ⟨S1100x640x4, .f32⟩
  | .local _ .vmem, ⟨2, _⟩ => ⟨S1100x640x512, .bf16⟩
  | _, _ => ⟨S1100x2x16x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1100x640x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1100x640x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1100x640x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Blocks.lean ====
/- THE BLOCKS OF A GRID STEP, READ OFF THE ARGUMENTS: step `i` works on sequences `10·i … 10·i + 9`; each of its input blocks, entry by entry, is the
   argument array at the sequence's own index. -/
module

public import proofs.«01_k».proof.Proof.Gen.KernelIdeal.Frame
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (hO : Ok m) (c : Dev nD) (t : Fin (cfgM m hO).N)

/-- It is a sequence. -/
theorem seq_lt (i : grid0.Coords) (j : Fin 10) : 10 * (i 0).val + j.val < 1100 := by
  have : (i 0).val < 110 := (i 0).isLt
  omega

/-- The sequence that place `j` of step `i` works on. -/
abbrev seqOf (i : grid0.Coords) (j : Fin 10) : Fin 1100 := ⟨10 * (i 0).val + j.val, seq_lt i j⟩

/-- The windows' index map (one map for all eight): the step along the leading axis. -/
theorem transform (i : grid0.Coords) : cc0_transform_0 i = ![(i 0).val, 0, 0] := by
  revert i; decide +kernel

/-- Where a block's element lies in its array: the step's place along the leading axis, the element's own along the other two. -/
theorem place (i : grid0.Coords) (s0 s1 s2 y0 y1 y2 : ℕ) :
    cc0_transform_0 i 0 * s0 + y0 = s0 * (i 0).val + y0 ∧ cc0_transform_0 i 1 * s1 + y1 = y1 ∧ cc0_transform_0 i 2 * s2 + y2 = y2 := by
  rw [transform]
  refine ⟨?_, ?_, ?_⟩
  · show (i 0).val * s0 + y0 = _; rw [Nat.mul_comm]
  · show 0 * s1 + y1 = _; omega
  · show 0 * s2 + y2 = _; omega

/-- The block of the queries. -/
theorem blk0 (j : Fin 10) (r : Fin 32) (l : Fin 512) : iblk m hO c 0 t (ix3 j r l) = V m c main_v0 (ix3 (seqOf (grid0.coords t) j) r l) := by
  unfold iblk
  refine congrArg (V m c main_v0) (funext fun a => Fin.ext ?_)
  blk_simp
  have h := place (grid0.coords t) 10 32 512 j.val r.val l.val
  fin_cases a
  exacts [h.1, h.2.1, h.2.2]
/-- The block of the rope queries. -/
theorem blk1 (j : Fin 10) (r : Fin 32) (l : Fin 64) : iblk m hO c 1 t (ix3 j r l) = V m c main_v1 (ix3 (seqOf (grid0.coords t) j) r l) := by
  unfold iblk
  refine congrArg (V m c main_v1) (funext fun a => Fin.ext ?_)
  blk_simp
  have h := place (grid0.coords t) 10 32 64 j.val r.val l.val
  fin_cases a
  exacts [h.1, h.2.1, h.2.2]
/-- The block of the codes. -/
theorem blk4 (j : Fin 10) (r : Fin 640) (l : Fin 512) : iblk m hO c 4 t (ix3 j r l) = V m c main_arg4 (ix3 (seqOf (grid0.coords t) j) r l) := by
  unfold iblk
  refine congrArg (V m c main_arg4) (funext fun a => Fin.ext ?_)
  blk_simp
  have h := place (grid0.coords t) 10 640 512 j.val r.val l.val
  fin_cases a
  exacts [h.1, h.2.1, h.2.2]
/-- The block of the transposed scales. -/
theorem blk5 (j : Fin 10) (r : Fin 4) (l : Fin 640) : iblk m hO c 5 t (ix3 j r l) = V m c main_v4 (ix3 (seqOf (grid0.coords t) j) r l) := by
  unfold iblk
  refine congrArg (V m c main_v4) (funext fun a => Fin.ext ?_)
  blk_simp
  have h := place (grid0.coords t) 10 4 640 j.val r.val l.val
  fin_cases a
  exacts [h.1, h.2.1, h.2.2]
/-- The block of the transposed rope keys. -/
theorem blk6 (j : Fin 10) (r : Fin 64) (l : Fin 640) : iblk m hO c 6 t (ix3 j r l) = V m c main_v5 (ix3 (seqOf (grid0.coords t) j) r l) := by
  unfold iblk
  refine congrArg (V m c main_v5) (funext fun a => Fin.ext ?_)
  blk_simp
  have h := place (grid0.coords t) 10 64 640 j.val r.val l.val
  fin_cases a
  exacts [h.1, h.2.1, h.2.2]
/-- The block of the new latents, the sequences' tokens in one run. -/
theorem blk2 (j : Fin 1) (r : Fin 20) (l : Fin 512) : iblk m hO c 2 t (ix3 j r l) = V m c main_v2 (ix3 (grid0.coords t 0 : Fin 110) r l) := by
  unfold iblk
  refine congrArg (V m c main_v2) (funext fun a => Fin.ext ?_)
  blk_simp
  have h := place (grid0.coords t) 1 20 512 j.val r.val l.val
  fin_cases a
  exacts [h.1.trans (by have := j.isLt; show 1 * (grid0.coords t 0).val + j.val = (grid0.coords t 0).val; omega), h.2.1, h.2.2]
/-- The block of the new rope keys. -/
theorem blk3 (j : Fin 1) (r : Fin 20) (l : Fin 64) : iblk m hO c 3 t (ix3 j r l) = V m c main_v3 (ix3 (grid0.coords t 0 : Fin 110) r l) := by
  unfold iblk
  refine congrArg (V m c main_v3) (funext fun a => Fin.ext ?_)
  blk_simp
  have h := place (grid0.coords t) 1 20 64 j.val r.val l.val
  fin_cases a
  exacts [h.1.trans (by have := j.isLt; show 1 * (grid0.coords t 0).val + j.val = (grid0.coords t 0).val; omega), h.2.1, h.2.2]
/-- The queries, the rows of a sequence in one axis. -/
theorem arr_x (b : Fin 1100) (r : Fin 32) (l : Fin 512) :
  V m c main_v0 (ix3 b r l) = m ((c : Thread nD τ).loc main_arg0) (ix4 b (⟨r.val/16, by omega⟩ : Fin 2) (⟨r.val % 16, by omega⟩ : Fin 16) l) := by
  unfold V V0
  simp only [List.flatten_cons, List.flatten_nil, List.append_nil]
  entry_read
  pointwise
/-- The rope queries. -/
theorem arr_qrope (b : Fin 1100) (r : Fin 32) (l : Fin 64) :
  V m c main_v1 (ix3 b r l) = m ((c : Thread nD τ).loc main_arg1) (ix4 b (⟨r.val/16, by omega⟩ : Fin 2) (⟨r.val % 16, by omega⟩ : Fin 16) l) := by
  unfold V V0
  simp only [List.flatten_cons, List.flatten_nil, List.append_nil]
  entry_read
  pointwise
/-- The new latents: ten sequences' tokens in one axis. -/
theorem arr_kvn (b : Fin 110) (r : Fin 20) (l : Fin 512) :
  V m c main_v2 (ix3 b r l) = m ((c : Thread nD τ).loc main_arg2) (ix3 (⟨b.val * 10 + r.val / 2, by omega⟩ : Fin 1100) (⟨r.val % 2, by omega⟩ : Fin 2) l) := by
  unfold V V0
  simp only [List.flatten_cons, List.flatten_nil, List.append_nil]
  entry_read
  pointwise
/-- The new rope keys. -/
theorem arr_krn (b : Fin 110) (r : Fin 20) (l : Fin 64) :
  V m c main_v3 (ix3 b r l) = m ((c : Thread nD τ).loc main_arg3) (ix3 (⟨b.val * 10 + r.val / 2, by omega⟩ : Fin 1100) (⟨r.val % 2, by omega⟩ : Fin 2) l) := by
  unfold V V0
  simp only [List.flatten_cons, List.flatten_nil, List.append_nil]
  entry_read
  pointwise
/-- The scales, transposed. -/
theorem arr_scale (b : Fin 1100) (r : Fin 4) (l : Fin 640) :
  V m c main_v4 (ix3 b r l) = m ((c : Thread nD τ).loc main_arg5) (ix3 b l r) := by
  unfold V V0
  simp only [List.flatten_cons, List.flatten_nil, List.append_nil]
  entry_read
  pointwise
/-- The cached rope keys, transposed. -/
theorem arr_krope (b : Fin 1100) (r : Fin 64) (l : Fin 640) :
  V m c main_v5 (ix3 b r l) = m ((c : Thread nD τ).loc main_arg6) (ix3 b l r) := by
  unfold V V0
  simp only [List.flatten_cons, List.flatten_nil, List.append_nil]
  entry_read
  pointwise

/-- The table word that step `i` loads for place `j`: the sequence's own length. -/
theorem table_word (i : grid0.Coords) (xt0 : TbBuf0 (F := Ideal) c tbM0_0) (j : Fin 10) :
    View.ld (View.read (Elt Ideal) (View.whole main_arg7) xt0) (Rect.unit (k0_off1 i (BitVec.ofNat 32 j.val)) S1.size (k0_off1_inb i j))
      (Shape.Idx.first Nat.one_pos) = xt0 (ix1 (seqOf i j)) := by
  pointwise
  refine congrArg xt0 (congrArg ix1 (Fin.ext ?_))
  have hj : j.val < 10 := j.isLt
  have hi : (i 0).val < 110 := (i 0).isLt
  show (BitVec.ofNat 32 (i 0).val * 10#32 + BitVec.ofNat 32 j.val).toNat = 10 * (i 0).val + j.val
  simp only [BitVec.toNat_add, BitVec.toNat_mul, BitVec.toNat_ofNat]
  omega

end Cert.KernelIdeal.Hand

end
-- ==== Proof.Seq.lean ====
/- ONE SEQUENCE OF THE KERNEL'S BODY, WRITTEN ONCE. The printed body treats ten sequences one after the other, and the printer cuts each of them into
   payloads at other places. Here the computation of one sequence is a chain of short definitions over that sequence's loads; `pieces` shows that
   each of the forty stores the run makes is, by definitional unfolding, the store of one lane group of one sequence of this chain. -/
module

public import proofs.«01_k».proof.Proof.Gen.KernelIdeal.Frame
public import Idealize.ShloMosaic.Lib.Pipeline.Value
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]

/-- The block of zeros beside each half of the block-diagonal left operand. -/
def zeros : FVec F S32x128 .bf16 := broadcast S32x128 (Scalar.ofBits .bf16 0x0000#16)

/-- The block-diagonal left operand of two lane groups' scores: `a` beside zeros, over zeros beside `b`. -/
def pairLhs (a b : FVec F S32x128 .bf16) : FVec F S64x256 .bf16 :=
  concatenate S64x256 0
    [⟨S32x256, concatenate S32x256 1 [⟨S32x128, a⟩, ⟨S32x128, zeros⟩] concatenates_S32x128_S32x128_S32x256_d1⟩,
     ⟨S32x256, concatenate S32x256 1 [⟨S32x128, zeros⟩, ⟨S32x128, b⟩] concatenates_S32x128_S32x128_S32x256_d1⟩]
    concatenates_S32x256_S32x256_S64x256_d0

/-- Two lane groups' unscaled scores in one product: rows 0 to 31 the first group's, rows 32 to 63 the second's. -/
def pairDot (a b : FVec F S32x128 .bf16) (codes : Vec F S1x640x256 .fp8e4m3) : FVec F S64x640 .f32 :=
  matmul dot_S64x256_S640x256_S64x640_1_1_0_0_n_n none (pairLhs a b) (shapeCast S640x256 codes shapeCasts_S1x640x256_S640x256)
    (constant S64x640 .f32 0x00000000#32)

/-- One lane group's scores scaled and added. -/
def addGroup (s half : FVec F S32x640 .f32) (sc : Vec F S1x1x640 .f32) : FVec F S32x640 .f32 :=
  addf s (mulf half (broadcastTo S32x640 (shapeCast S1x640 sc shapeCasts_S1x1x640_S1x640) broadcasts_S1x640_S32x640))

/-- Two lane groups' scores added. -/
def addPair (s : FVec F S32x640 .f32) (a b : FVec F S32x128 .bf16) (codes : Vec F S1x640x256 .fp8e4m3) (sa sb : Vec F S1x1x640 .f32) :
    FVec F S32x640 .f32 :=
  addGroup (addGroup s (extractStridedSlice S32x640 ![0, 0] (pairDot a b codes) slices_S64x640_o0_0_S32x640) sa)
    (extractStridedSlice S32x640 ![32, 0] (pairDot a b codes) slices_S64x640_o32_0_S32x640) sb

/-- What one sequence reads: its queries, the step's new latents and rope keys, its codes in two lane pairs, its scales group by group and pair by
    pair, its cached rope keys and its cached length. -/
structure Loads (F : FTy → Type) [FloatOps F] where
  x : Vec F S1x32x512 .bf16
  qr : Vec F S1x32x64 .bf16
  kvn : Vec F S1x20x512 .bf16
  krn : Vec F S1x20x64 .bf16
  c0 : Vec F S1x640x256 .fp8e4m3
  c1 : Vec F S1x640x256 .fp8e4m3
  s0 : Vec F S1x1x640 .f32
  s1 : Vec F S1x1x640 .f32
  s2 : Vec F S1x1x640 .f32
  s3 : Vec F S1x1x640 .f32
  s01 : Vec F S1x2x640 .f32
  s23 : Vec F S1x2x640 .f32
  kr : Vec F S1x64x640 .bf16
  len : Elt F .i32

variable (L : Loads F) (w : BitVec 32)

def xv : FVec F S32x512 .bf16 := shapeCast S32x512 L.x shapeCasts_S1x32x512_S32x512
def qrv : FVec F S32x64 .bf16 := shapeCast S32x64 L.qr shapeCasts_S1x32x64_S32x64
def kvnv : FVec F S20x512 .bf16 := shapeCast S20x512 L.kvn shapeCasts_S1x20x512_S20x512

/-- The rope part of the cached scores. -/
def ropeC : FVec F S32x640 .f32 :=
  matmul dot_S32x64_S64x640_S32x640_1_0_0_1_n_n none (qrv L) (shapeCast S64x640 L.kr shapeCasts_S1x64x640_S64x640) (constant S32x640 .f32 0x00000000#32)

/-- The cached scores before the softmax scale. -/
def rawC : FVec F S32x640 .f32 :=
  addPair
    (addPair (ropeC L) (extractStridedSlice S32x128 ![0, 0] (xv L) slices_S32x512_o0_0_S32x128)
      (extractStridedSlice S32x128 ![0, 128] (xv L) slices_S32x512_o0_128_S32x128) L.c0 L.s0 L.s1)
    (extractStridedSlice S32x128 ![0, 256] (xv L) slices_S32x512_o0_256_S32x128)
    (extractStridedSlice S32x128 ![0, 384] (xv L) slices_S32x512_o0_384_S32x128) L.c1 L.s2 L.s3

/-- The cached scores, masked by the cached length. -/
def scoreC : FVec F S32x640 .f32 :=
  select (cmpi .slt (iota .tc S32x640 32 [1] iota_S32x640_d1_w32) (broadcast S32x640 L.len))
    (mulf (rawC L) (broadcast S32x640 (Scalar.ofBits .f32 0x3D93CD3A#32))) (broadcast S32x640 (Scalar.ofBits .f32 0xFF800000#32))

/-- The new-token scores before the mask. -/
def rawN : FVec F S32x20 .f32 :=
  mulf
    (addf (matmul dot_S32x512_S20x512_S32x20_1_1_0_0_n_n none (xv L) (kvnv L) (constant S32x20 .f32 0x00000000#32))
      (matmul dot_S32x64_S20x64_S32x20_1_1_0_0_n_n none (qrv L) (shapeCast S20x64 L.krn shapeCasts_S1x20x64_S20x64)
        (constant S32x20 .f32 0x00000000#32)))
    (broadcast S32x20 (Scalar.ofBits .f32 0x3D93CD3A#32))

/-- Which new-token lanes a row of the sequence whose first lane is `w` sees. -/
def own : IVec S32x20 1 :=
  andi (cmpi .sge (iota .tc S32x20 32 [1] iota_S32x20_d1_w32) (broadcast S32x20 w))
    (cmpi .sle (iota .tc S32x20 32 [1] iota_S32x20_d1_w32) (addi (broadcast S32x20 w) k0_pay3))

/-- The new-token scores, masked. -/
def scoreN : FVec F S32x20 .f32 := select (own w) (rawN L) (broadcast S32x20 (Scalar.ofBits .f32 0xFF800000#32))

/-- Each row's greatest score. -/
def rowMax : FVec F S32x1 .f32 :=
  maximumf
    (shapeCast S32x1 (multiReduction .maximumf [1] S32 (scoreC L) 0xFF800000#32 reduces_S32x640_S32 (.inl rfl) rfl) shapeCasts_S32_S32x1)
    (shapeCast S32x1 (multiReduction .maximumf [1] S32 (scoreN L w) 0xFF800000#32 reduces_S32x20_S32 (.inl rfl) rfl) shapeCasts_S32_S32x1)

def expC : FVec F S32x640 .f32 := exp (subf (scoreC L) (broadcastTo S32x640 (rowMax L w) broadcasts_S32x1_S32x640))
def expN : FVec F S32x20 .f32 := exp (subf (scoreN L w) (broadcastTo S32x20 (rowMax L w) broadcasts_S32x1_S32x20))

/-- The reciprocal of each row's sum of exponentials. -/
def inv : FVec F S32x1 .f32 :=
  divf (broadcast S32x1 (Scalar.ofBits .f32 0x3F800000#32))
    (addf (shapeCast S32x1 (multiReduction .add [1] S32 (expC L w) 0x00000000#32 reduces_S32x640_S32 (.inl rfl) rfl) shapeCasts_S32_S32x1)
      (shapeCast S32x1 (multiReduction .add [1] S32 (expN L w) 0x00000000#32 reduces_S32x20_S32 (.inl rfl) rfl) shapeCasts_S32_S32x1))

def probC : FVec F S32x640 .bf16 := truncf .bf16 (mulf (expC L w) (broadcastTo S32x640 (inv L w) broadcasts_S32x1_S32x640)) bitsLt_bf16_f32
def probN : FVec F S32x20 .bf16 := truncf .bf16 (mulf (expN L w) (broadcastTo S32x20 (inv L w) broadcasts_S32x1_S32x20)) bitsLt_bf16_f32

/-- The new tokens' share of the output. -/
def outN : FVec F S32x512 .f32 :=
  matmul dot_S32x20_S20x512_S32x512_1_0_0_1_n_n none (probN L w) (kvnv L) (constant S32x512 .f32 0x00000000#32)

/-- Probabilities times one group's scales, over the same times the other's. -/
def pairProb (sc : Vec F S1x2x640 .f32) : FVec F S64x640 .bf16 :=
  concatenate S64x640 0
    [⟨S32x640, mulf (probC L w) (broadcastTo S32x640 (extractStridedSlice S1x640 ![0, 0]
        (truncf .bf16 (shapeCast S2x640 sc shapeCasts_S1x2x640_S2x640) bitsLt_bf16_f32) slices_S2x640_o0_0_S1x640) broadcasts_S1x640_S32x640)⟩,
     ⟨S32x640, mulf (probC L w) (broadcastTo S32x640 (extractStridedSlice S1x640 ![1, 0]
        (truncf .bf16 (shapeCast S2x640 sc shapeCasts_S1x2x640_S2x640) bitsLt_bf16_f32) slices_S2x640_o1_0_S1x640) broadcasts_S1x640_S32x640)⟩]
    concatenates_S32x640_S32x640_S64x640_d0

/-- Two lane groups' cached output in one product. -/
def pairOut (sc : Vec F S1x2x640 .f32) (codes : Vec F S1x640x256 .fp8e4m3) : FVec F S64x256 .f32 :=
  matmul dot_S64x640_S640x256_S64x256_1_0_0_1_n_n none (pairProb L w sc) (shapeCast S640x256 codes shapeCasts_S1x640x256_S640x256)
    (constant S64x256 .f32 0x00000000#32)

/-- What is stored: a block of the cached product plus the same lanes of the new tokens' share. -/
def stored (a b : FVec F S32x128 .f32) : FVec F S1x32x128 .bf16 :=
  shapeCast S1x32x128 (truncf .bf16 (addf a b) bitsLt_bf16_f32) shapeCasts_S32x128_S1x32x128

/-- The store of lane group `g`. -/
def piece (g : Fin 4) : FVec F S1x32x128 .bf16 :=
  match g with
  | ⟨0, _⟩ => stored (extractStridedSlice S32x128 ![0, 0] (pairOut L w L.s01 L.c0) slices_S64x256_o0_0_S32x128)
      (extractStridedSlice S32x128 ![0, 0] (outN L w) slices_S32x512_o0_0_S32x128)
  | ⟨1, _⟩ => stored (extractStridedSlice S32x128 ![32, 128] (pairOut L w L.s01 L.c0) slices_S64x256_o32_128_S32x128)
      (extractStridedSlice S32x128 ![0, 128] (outN L w) slices_S32x512_o0_128_S32x128)
  | ⟨2, _⟩ => stored (extractStridedSlice S32x128 ![0, 0] (pairOut L w L.s23 L.c1) slices_S64x256_o0_0_S32x128)
      (extractStridedSlice S32x128 ![0, 256] (outN L w) slices_S32x512_o0_256_S32x128)
  | ⟨3, _⟩ => stored (extractStridedSlice S32x128 ![32, 128] (pairOut L w L.s23 L.c1) slices_S64x256_o32_128_S32x128)
      (extractStridedSlice S32x128 ![0, 384] (outN L w) slices_S32x512_o0_384_S32x128)

end Cert.KernelIdeal.Hand

end
-- ==== Proof.Pieces.lean ====
/- THE FORTY STORES OF ONE GRID STEP are the forty lane groups of Proof/Seq.lean: sequence `j` of the step at lane group `g` goes to row `j`, lanes
   `128 g` to `128 g + 127` of the output block. -/
module

public import proofs.«01_k».proof.Proof.Seq

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]

theorem hx (j : Fin 10) : ∀ a, (![j.val, 0, 0] : Fin 3 → Nat) a + S1x32x512.size a ≤ S10x32x512.size a := by revert j; decide
theorem hqr (j : Fin 10) : ∀ a, (![j.val, 0, 0] : Fin 3 → Nat) a + S1x32x64.size a ≤ S10x32x64.size a := by revert j; decide
theorem hkr (j : Fin 10) : ∀ a, (![j.val, 0, 0] : Fin 3 → Nat) a + S1x64x640.size a ≤ S10x64x640.size a := by revert j; decide
theorem hc0 (j : Fin 10) : ∀ a, (![j.val, 0, 0] : Fin 3 → Nat) a + S1x640x256.size a ≤ S10x640x512.size a := by revert j; decide
theorem hc1 (j : Fin 10) : ∀ a, (![j.val, 0, 256] : Fin 3 → Nat) a + S1x640x256.size a ≤ S10x640x512.size a := by revert j; decide
theorem hs0 (j : Fin 10) : ∀ a, (![j.val, 0, 0] : Fin 3 → Nat) a + S1x1x640.size a ≤ S10x4x640.size a := by revert j; decide
theorem hs1 (j : Fin 10) : ∀ a, (![j.val, 1, 0] : Fin 3 → Nat) a + S1x1x640.size a ≤ S10x4x640.size a := by revert j; decide
theorem hs2 (j : Fin 10) : ∀ a, (![j.val, 2, 0] : Fin 3 → Nat) a + S1x1x640.size a ≤ S10x4x640.size a := by revert j; decide
theorem hs3 (j : Fin 10) : ∀ a, (![j.val, 3, 0] : Fin 3 → Nat) a + S1x1x640.size a ≤ S10x4x640.size a := by revert j; decide
theorem hs01 (j : Fin 10) : ∀ a, (![j.val, 0, 0] : Fin 3 → Nat) a + S1x2x640.size a ≤ S10x4x640.size a := by revert j; decide
theorem hs23 (j : Fin 10) : ∀ a, (![j.val, 2, 0] : Fin 3 → Nat) a + S1x2x640.size a ≤ S10x4x640.size a := by revert j; decide
theorem hout (j : Fin 10) (g : Fin 4) : ∀ a, (![j.val, 0, 128 * g.val] : Fin 3 → Nat) a + S1x32x128.size a ≤ S10x32x512.size a := by revert j g; decide

/-- Sequence `j`'s loads of a grid step's blocks. -/
def loads (c : Dev nD) (i : grid0.Coords) (x0 : Vec F S10x32x512 .bf16) (x1 : Vec F S10x32x64 .bf16) (x2 : Vec F S1x20x512 .bf16)
    (x3 : Vec F S1x20x64 .bf16) (x4 : Vec F S10x640x512 .fp8e4m3) (x5 : Vec F S10x4x640 .f32) (x6 : Vec F S10x64x640 .bf16)
    (xt0 : TbBuf0 (F := F) c tbM0_0) (j : Fin 10) : Loads F where
  x := View.ld x0 (Rect.unit ![j.val, 0, 0] ![1, 32, 512] (hx j))
  qr := View.ld x1 (Rect.unit ![j.val, 0, 0] ![1, 32, 64] (hqr j))
  kvn := View.ld x2 (Rect.unit ![0, 0, 0] ![1, 20, 512] inb_S1x20x512_S1x20x512_0_0_0)
  krn := View.ld x3 (Rect.unit ![0, 0, 0] ![1, 20, 64] inb_S1x20x64_S1x20x64_0_0_0)
  c0 := View.ld x4 (Rect.unit ![j.val, 0, 0] ![1, 640, 256] (hc0 j))
  c1 := View.ld x4 (Rect.unit ![j.val, 0, 256] ![1, 640, 256] (hc1 j))
  s0 := View.ld x5 (Rect.unit ![j.val, 0, 0] ![1, 1, 640] (hs0 j))
  s1 := View.ld x5 (Rect.unit ![j.val, 1, 0] ![1, 1, 640] (hs1 j))
  s2 := View.ld x5 (Rect.unit ![j.val, 2, 0] ![1, 1, 640] (hs2 j))
  s3 := View.ld x5 (Rect.unit ![j.val, 3, 0] ![1, 1, 640] (hs3 j))
  s01 := View.ld x5 (Rect.unit ![j.val, 0, 0] ![1, 2, 640] (hs01 j))
  s23 := View.ld x5 (Rect.unit ![j.val, 2, 0] ![1, 2, 640] (hs23 j))
  kr := View.ld x6 (Rect.unit ![j.val, 0, 0] ![1, 64, 640] (hkr j))
  len := View.ld (View.read (Elt F) (View.whole main_arg7) xt0)
    (Rect.unit (k0_off1 i (BitVec.ofNat 32 j.val)) S1.size (k0_off1_inb i j)) (Shape.Idx.first Nat.one_pos)

/-- The store of sequence `j`'s lane group `g`. -/
def seqPiece (Ls : Fin 10 → Loads F) (j : Fin 10) (g : Fin 4) : View.Piece (Elt F) S10x32x512 .bf16 :=
  ⟨Rect.unit ![j.val, 0, 128 * g.val] ![1, 32, 128] (hout j g), piece (Ls j) (BitVec.ofNat 32 (2 * j.val)) g⟩

/-- Every store of the step is one of them. -/
theorem pieces (c : Dev nD) (i : grid0.Coords) (arg2 : Memref sig .tc .vmem S10x32x512 .bf16) (harg2 : arg2.IsWhole) (arg3 : Memref sig .tc .vmem S10x32x64 .bf16) (harg3 : arg3.IsWhole)
    (arg4 : Memref sig .tc .vmem S1x20x512 .bf16) (harg4 : arg4.IsWhole) (arg5 : Memref sig .tc .vmem S1x20x64 .bf16) (harg5 : arg5.IsWhole)
    (arg6 : Memref sig .tc .vmem S10x640x512 .fp8e4m3) (harg6 : arg6.IsWhole) (arg7 : Memref sig .tc .vmem S10x4x640 .f32) (harg7 : arg7.IsWhole)
    (arg8 : Memref sig .tc .vmem S10x64x640 .bf16) (harg8 : arg8.IsWhole) (arg9 : Memref sig .tc .vmem S10x32x512 .bf16) (harg9 : arg9.IsWhole)
    (x0 : Vec F S10x32x512 .bf16) (x1 : Vec F S10x32x64 .bf16) (x2 : Vec F S1x20x512 .bf16) (x3 : Vec F S1x20x64 .bf16) (x4 : Vec F S10x640x512 .fp8e4m3)
    (x5 : Vec F S10x4x640 .f32) (x6 : Vec F S10x64x640 .bf16) (xt0 : TbBuf0 (F := F) c tbM0_0) :
    ∀ p ∈ (kernelRun0_A c i arg2 harg2 arg3 harg3 arg4 harg4 arg5 harg5 arg6 harg6 arg7 harg7 arg8 harg8 arg9 harg9 x0 x1 x2 x3 x4 x5 x6 xt0).1, ∃ j g, p = seqPiece (loads c i x0 x1 x2 x3 x4 x5 x6 xt0) j g := by
  unfold kernelRun0_A; dsimp only; sl_unfold_words
  simp only [View.readAt_eq_ld, harg2.read_unread, harg3.read_unread, harg4.read_unread, harg5.read_unread, harg6.read_unread, harg7.read_unread,
    harg8.read_unread]
  refine List.forall_mem_cons.2 ⟨⟨9, 3, rfl⟩,
    List.forall_mem_cons.2 ⟨⟨9, 2, rfl⟩,
    List.forall_mem_cons.2 ⟨⟨9, 1, rfl⟩,
    List.forall_mem_cons.2 ⟨⟨9, 0, rfl⟩,
    List.forall_mem_cons.2 ⟨⟨8, 3, rfl⟩,
    List.forall_mem_cons.2 ⟨⟨8, 2, rfl⟩,
    List.forall_mem_cons.2 ⟨⟨8, 1, rfl⟩,
    List.forall_mem_cons.2 ⟨⟨8, 0, rfl⟩,
    List.forall_mem_cons.2 ⟨⟨7, 3, rfl⟩,
    List.forall_mem_cons.2 ⟨⟨7, 2, rfl⟩,
    List.forall_mem_cons.2 ⟨⟨7, 1, rfl⟩,
    List.forall_mem_cons.2 ⟨⟨7, 0, rfl⟩,
    List.forall_mem_cons.2 ⟨⟨6, 3, rfl⟩,
    List.forall_mem_cons.2 ⟨⟨6, 2, rfl⟩,
    List.forall_mem_cons.2 ⟨⟨6, 1, rfl⟩,
    List.forall_mem_cons.2 ⟨⟨6, 0, rfl⟩,
    List.forall_mem_cons.2 ⟨⟨5, 3, rfl⟩,
    List.forall_mem_cons.2 ⟨⟨5, 2, rfl⟩,
    List.forall_mem_cons.2 ⟨⟨5, 1, rfl⟩,
    List.forall_mem_cons.2 ⟨⟨5, 0, rfl⟩,
    List.forall_mem_cons.2 ⟨⟨4, 3, rfl⟩,
    List.forall_mem_cons.2 ⟨⟨4, 2, rfl⟩,
    List.forall_mem_cons.2 ⟨⟨4, 1, rfl⟩,
    List.forall_mem_cons.2 ⟨⟨4, 0, rfl⟩,
    List.forall_mem_cons.2 ⟨⟨3, 3, rfl⟩,
    List.forall_mem_cons.2 ⟨⟨3, 2, rfl⟩,
    List.forall_mem_cons.2 ⟨⟨3, 1, rfl⟩,
    List.forall_mem_cons.2 ⟨⟨3, 0, rfl⟩,
    List.forall_mem_cons.2 ⟨⟨2, 3, rfl⟩,
    List.forall_mem_cons.2 ⟨⟨2, 2, rfl⟩,
    List.forall_mem_cons.2 ⟨⟨2, 1, rfl⟩,
    List.forall_mem_cons.2 ⟨⟨2, 0, rfl⟩,
    List.forall_mem_cons.2 ⟨⟨1, 3, rfl⟩,
    List.forall_mem_cons.2 ⟨⟨1, 2, rfl⟩,
    List.forall_mem_cons.2 ⟨⟨1, 1, rfl⟩,
    List.forall_mem_cons.2 ⟨⟨1, 0, rfl⟩,
    List.forall_mem_cons.2 ⟨⟨0, 3, rfl⟩,
    List.forall_mem_cons.2 ⟨⟨0, 2, rfl⟩,
    List.forall_mem_cons.2 ⟨⟨0, 1, rfl⟩,
    List.forall_mem_cons.2 ⟨⟨0, 0, rfl⟩,
    List.forall_mem_nil _⟩⟩⟩⟩⟩⟩⟩⟩⟩⟩⟩⟩⟩⟩⟩⟩⟩⟩⟩⟩⟩⟩⟩⟩⟩⟩⟩⟩⟩⟩⟩⟩⟩⟩⟩⟩⟩⟩⟩⟩

end Cert.KernelIdeal.Hand

end
-- ==== Proof.Read.lean ====
/- THE CHAIN OF Proof/Seq.lean READ AT AN ELEMENT, over the extended reals: each definition's entry as sums and products of the loads' entries. -/
module

public import proofs.«01_k».proof.Proof.Seq
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable (L : Loads Ideal) (w : BitVec 32)

/-- A sum over 256 positions is the sum over the first 128 and over the last 128. -/
theorem sum256 (f : Fin 256 → EReal) :
    ∑ k, f k = (∑ k : Fin 128, f ⟨k.val, by omega⟩) + ∑ k : Fin 128, f ⟨128 + k.val, by omega⟩ :=
  Fin.sum_univ_add (a := 128) (b := 128) f

theorem ropeC_apply (r : Fin 32) (p : Fin 640) :
    ropeC L (ix2 r p) = ∑ d : Fin 64, L.qr (ix3 (0 : Fin 1) r d) * L.kr (ix3 (0 : Fin 1) d p) := by
  unfold ropeC qrv
  pointwise

theorem pairDot_apply (a b : FVec Ideal S32x128 .bf16) (codes : Vec Ideal S1x640x256 .fp8e4m3) (r : Fin 64) (p : Fin 640) :
    pairDot a b codes (ix2 r p) = ∑ k : Fin 256, pairLhs a b (ix2 r k) * codes (ix3 (0 : Fin 1) p k) := by
  unfold pairDot
  pointwise

theorem pairLhs_apply (a b : FVec Ideal S32x128 .bf16) (r : Fin 64) (k : Fin 256) :
    pairLhs a b (ix2 r k) = if hr : r.val < 32 then (if hk : k.val < 128 then a (ix2 (⟨r.val, hr⟩ : Fin 32) (⟨k.val, hk⟩ : Fin 128)) else 0)
      else if hk : k.val < 128 then 0 else b (ix2 (⟨r.val - 32, by omega⟩ : Fin 32) (⟨k.val - 128, by omega⟩ : Fin 128)) := by
  unfold pairLhs zeros
  pointwise

/-- The upper half of the product reads the first lane group only: the zeros beside it meet the other group's codes. -/
theorem pairDot_lo (a b : FVec Ideal S32x128 .bf16) (codes : Vec Ideal S1x640x256 .fp8e4m3) (r : Fin 32) (p : Fin 640) :
    pairDot a b codes (ix2 (⟨r.val, by omega⟩ : Fin 64) p)
      = ∑ k : Fin 128, a (ix2 r k) * codes (ix3 (0 : Fin 1) p (⟨k.val, by omega⟩ : Fin 256)) := by
  rw [pairDot_apply, sum256]
  simp only [pairLhs_apply]
  simp

/-- The lower half reads the second lane group only. -/
theorem pairDot_hi (a b : FVec Ideal S32x128 .bf16) (codes : Vec Ideal S1x640x256 .fp8e4m3) (r : Fin 32) (p : Fin 640) :
    pairDot a b codes (ix2 (⟨32 + r.val, by omega⟩ : Fin 64) p)
      = ∑ k : Fin 128, b (ix2 r k) * codes (ix3 (0 : Fin 1) p (⟨128 + k.val, by omega⟩ : Fin 256)) := by
  rw [pairDot_apply, sum256]
  simp only [pairLhs_apply]
  simp

/-- One lane group's dot of the query with the codes. -/
def gdot (codes : Vec Ideal S1x640x256 .fp8e4m3) (o o' : Nat) (h : o + 128 ≤ 512) (h' : o' + 128 ≤ 256) (r : Fin 32) (p : Fin 640) : EReal :=
  ∑ k : Fin 128, L.x (ix3 (0 : Fin 1) r (⟨o + k.val, by omega⟩ : Fin 512)) * codes (ix3 (0 : Fin 1) p (⟨o' + k.val, by omega⟩ : Fin 256))

theorem scoreC_apply (r : Fin 32) (p : Fin 640) :
    scoreC L (ix2 r p) = Scalar.select (IntOp.cmpi .slt (BitVec.ofNat 32 p.val) L.len)
      (((∑ d : Fin 64, L.qr (ix3 (0 : Fin 1) r d) * L.kr (ix3 (0 : Fin 1) d p))
        + gdot L L.c0 0 0 (by omega) (by omega) r p * L.s0 (ix3 (0 : Fin 1) (0 : Fin 1) p)
        + gdot L L.c0 128 128 (by omega) (by omega) r p * L.s1 (ix3 (0 : Fin 1) (0 : Fin 1) p)
        + gdot L L.c1 256 0 (by omega) (by omega) r p * L.s2 (ix3 (0 : Fin 1) (0 : Fin 1) p)
        + gdot L L.c1 384 128 (by omega) (by omega) r p * L.s3 (ix3 (0 : Fin 1) (0 : Fin 1) p))
        * Ideal.ofBits .f32 0x3D93CD3A#32) (Ideal.ofBits .f32 0xFF800000#32) := by
  unfold scoreC rawC addPair addGroup
  pointwise
  simp only [ropeC_apply, pairDot_lo, pairDot_hi, xv, gdot]
  pointwise

theorem scoreN_apply (r : Fin 32) (n : Fin 20) :
    scoreN L w (ix2 r n) = Scalar.select (own w (ix2 r n))
      (((∑ l : Fin 512, L.x (ix3 (0 : Fin 1) r l) * L.kvn (ix3 (0 : Fin 1) n l))
        + ∑ d : Fin 64, L.qr (ix3 (0 : Fin 1) r d) * L.krn (ix3 (0 : Fin 1) n d)) * Ideal.ofBits .f32 0x3D93CD3A#32)
      (Ideal.ofBits .f32 0xFF800000#32) := by
  unfold scoreN rawN xv qrv kvnv
  pointwise

/-- The floor-divided row index is the row's token. -/
theorem tok_apply (r : Fin 32) (n : Fin 20) : k0_pay3 (ix2 r n) = BitVec.ofNat 32 (r.val / 16) := by
  unfold k0_pay3
  pointwise
  revert r; decide

/-- Row `r` of the step's sequence `j` sees the new-token lanes `2 j` to `2 j + r / 16`. -/
theorem own_apply (j : Fin 10) (r : Fin 32) (n : Fin 20) :
    own (BitVec.ofNat 32 (2 * j.val)) (ix2 r n) = BitVec.ofBool (decide (2 * j.val ≤ n.val ∧ n.val ≤ 2 * j.val + r.val / 16)) := by
  have key : ∀ (t : Fin 2) (j : Fin 10) (n : Fin 20),
      IntOp.andi (IntOp.cmpi .sge (BitVec.ofNat 32 n.val) (BitVec.ofNat 32 (2 * j.val)))
        (IntOp.cmpi .sle (BitVec.ofNat 32 n.val) (IntOp.addi (BitVec.ofNat 32 (2 * j.val)) (BitVec.ofNat 32 t.val)))
        = BitVec.ofBool (decide (2 * j.val ≤ n.val ∧ n.val ≤ 2 * j.val + t.val)) := by decide
  have h := key ⟨r.val / 16, by omega⟩ j n
  rw [← h, ← tok_apply r n]
  unfold own
  pointwise

theorem rowMax_apply (r : Fin 32) :
    rowMax L w (ix2 r (0 : Fin 1)) = max (Finset.fold max (Ideal.ofBits .f32 0xFF800000#32) (fun p : Fin 640 => scoreC L (ix2 r p)) Finset.univ)
      (Finset.fold max (Ideal.ofBits .f32 0xFF800000#32) (fun n : Fin 20 => scoreN L w (ix2 r n)) Finset.univ) := by
  unfold rowMax
  pointwise

theorem expC_apply (r : Fin 32) (p : Fin 640) :
    expC L w (ix2 r p) = Ideal.exp (scoreC L (ix2 r p) - rowMax L w (ix2 r (0 : Fin 1))) := by
  unfold expC
  pointwise

theorem expN_apply (r : Fin 32) (n : Fin 20) :
    expN L w (ix2 r n) = Ideal.exp (scoreN L w (ix2 r n) - rowMax L w (ix2 r (0 : Fin 1))) := by
  unfold expN
  pointwise

theorem inv_apply (r : Fin 32) :
    inv L w (ix2 r (0 : Fin 1)) = Ideal.div 1 ((∑ p : Fin 640, expC L w (ix2 r p)) + ∑ n : Fin 20, expN L w (ix2 r n)) := by
  unfold inv
  pointwise

theorem probC_apply (r : Fin 32) (p : Fin 640) : probC L w (ix2 r p) = expC L w (ix2 r p) * inv L w (ix2 r (0 : Fin 1)) := by
  unfold probC
  pointwise

theorem probN_apply (r : Fin 32) (n : Fin 20) : probN L w (ix2 r n) = expN L w (ix2 r n) * inv L w (ix2 r (0 : Fin 1)) := by
  unfold probN
  pointwise

theorem outN_apply (r : Fin 32) (l : Fin 512) :
    outN L w (ix2 r l) = ∑ n : Fin 20, probN L w (ix2 r n) * L.kvn (ix3 (0 : Fin 1) n l) := by
  unfold outN kvnv
  pointwise

theorem pairProb_apply (sc : Vec Ideal S1x2x640 .f32) (r : Fin 64) (p : Fin 640) :
    pairProb L w sc (ix2 r p) = if h : r.val < 32 then probC L w (ix2 (⟨r.val, h⟩ : Fin 32) p) * sc (ix3 (0 : Fin 1) (0 : Fin 2) p)
      else probC L w (ix2 (⟨r.val - 32, by omega⟩ : Fin 32) p) * sc (ix3 (0 : Fin 1) (1 : Fin 2) p) := by
  unfold pairProb
  pointwise

theorem pairOut_apply (sc : Vec Ideal S1x2x640 .f32) (codes : Vec Ideal S1x640x256 .fp8e4m3) (r : Fin 64) (l : Fin 256) :
    pairOut L w sc codes (ix2 r l) = ∑ p : Fin 640, pairProb L w sc (ix2 r p) * codes (ix3 (0 : Fin 1) p l) := by
  unfold pairOut
  pointwise

theorem pairOut_lo (sc : Vec Ideal S1x2x640 .f32) (codes : Vec Ideal S1x640x256 .fp8e4m3) (r : Fin 32) (l : Fin 256) :
    pairOut L w sc codes (ix2 (⟨r.val, by omega⟩ : Fin 64) l)
      = ∑ p : Fin 640, probC L w (ix2 r p) * sc (ix3 (0 : Fin 1) (0 : Fin 2) p) * codes (ix3 (0 : Fin 1) p l) := by
  simp only [pairOut_apply, pairProb_apply]
  simp

theorem pairOut_hi (sc : Vec Ideal S1x2x640 .f32) (codes : Vec Ideal S1x640x256 .fp8e4m3) (r : Fin 32) (l : Fin 256) :
    pairOut L w sc codes (ix2 (⟨32 + r.val, by omega⟩ : Fin 64) l)
      = ∑ p : Fin 640, probC L w (ix2 r p) * sc (ix3 (0 : Fin 1) (1 : Fin 2) p) * codes (ix3 (0 : Fin 1) p l) := by
  simp only [pairOut_apply, pairProb_apply]
  simp

/-- The four stores at row `r`, lane `k` of their lane group. -/
theorem piece0_apply (r : Fin 32) (k : Fin 128) :
    piece L w 0 (ix3 (0 : Fin 1) r k)
      = (∑ p : Fin 640, probC L w (ix2 r p) * L.s01 (ix3 (0 : Fin 1) (0 : Fin 2) p) * L.c0 (ix3 (0 : Fin 1) p (⟨k.val, by omega⟩ : Fin 256)))
        + ∑ n : Fin 20, probN L w (ix2 r n) * L.kvn (ix3 (0 : Fin 1) n (⟨k.val, by omega⟩ : Fin 512)) := by
  unfold piece stored
  pointwise
  rw [pairOut_lo, outN_apply]

theorem piece1_apply (r : Fin 32) (k : Fin 128) :
    piece L w 1 (ix3 (0 : Fin 1) r k)
      = (∑ p : Fin 640, probC L w (ix2 r p) * L.s01 (ix3 (0 : Fin 1) (1 : Fin 2) p) * L.c0 (ix3 (0 : Fin 1) p (⟨128 + k.val, by omega⟩ : Fin 256)))
        + ∑ n : Fin 20, probN L w (ix2 r n) * L.kvn (ix3 (0 : Fin 1) n (⟨128 + k.val, by omega⟩ : Fin 512)) := by
  unfold piece stored
  pointwise
  rw [pairOut_hi, outN_apply]

theorem piece2_apply (r : Fin 32) (k : Fin 128) :
    piece L w 2 (ix3 (0 : Fin 1) r k)
      = (∑ p : Fin 640, probC L w (ix2 r p) * L.s23 (ix3 (0 : Fin 1) (0 : Fin 2) p) * L.c1 (ix3 (0 : Fin 1) p (⟨k.val, by omega⟩ : Fin 256)))
        + ∑ n : Fin 20, probN L w (ix2 r n) * L.kvn (ix3 (0 : Fin 1) n (⟨256 + k.val, by omega⟩ : Fin 512)) := by
  unfold piece stored
  pointwise
  rw [pairOut_lo, outN_apply]

theorem piece3_apply (r : Fin 32) (k : Fin 128) :
    piece L w 3 (ix3 (0 : Fin 1) r k)
      = (∑ p : Fin 640, probC L w (ix2 r p) * L.s23 (ix3 (0 : Fin 1) (1 : Fin 2) p) * L.c1 (ix3 (0 : Fin 1) p (⟨128 + k.val, by omega⟩ : Fin 256)))
        + ∑ n : Fin 20, probN L w (ix2 r n) * L.kvn (ix3 (0 : Fin 1) n (⟨384 + k.val, by omega⟩ : Fin 512)) := by
  unfold piece stored
  pointwise
  rw [pairOut_hi, outN_apply]

end Cert.KernelIdeal.Hand

end
-- ==== Proof.Attn.lean ====
/- ONE ROW OF THE ATTENTION OVER THE EXTENDED REALS, both ways, and the two equal: no program appears here. The kernel scales each lane group's dot
   after summing it, keeps cached and new scores apart, masks unused new lanes with `⊥`, and multiplies by the reciprocal of the sum; the reference
   scales the codes first, joins the scores in one row, and divides. -/
module

public import Idealize.ShloMosaic.PureOps.Ideal.Laws

@[expose] public section

noncomputable section

namespace Cert.Attn

open Idealize.ShloMosaic
open scoped BigOperators

/-! ## Scores -/

/-- Scaling a sum by a finite nonnegative factor scales each term, whatever extended reals are summed. -/
theorem sum_mul_scale {n : Nat} (f : Fin n → EReal) (a : EReal) (h0 : 0 ≤ a) (h1 : a ≠ ⊤) : (∑ k, f k) * a = ∑ k, f k * a := by
  have key : ∀ s : Finset (Fin n), (∑ k ∈ s, f k) * a = ∑ k ∈ s, f k * a := by
    intro s
    induction s using Finset.induction_on with
    | empty => simp
    | insert b s hb ih => rw [Finset.sum_insert hb, Finset.sum_insert hb, EReal.right_distrib_of_nonneg_of_ne_top h0 h1, ih]
  exact key Finset.univ

/-- A sum over 512 lanes is the sum over its four groups of 128. -/
theorem sum512 (f : Fin 512 → EReal) :
    ∑ l, f l = (∑ k : Fin 128, f ⟨0 + k.val, by omega⟩) + (∑ k : Fin 128, f ⟨128 + k.val, by omega⟩)
      + (∑ k : Fin 128, f ⟨256 + k.val, by omega⟩) + ∑ k : Fin 128, f ⟨384 + k.val, by omega⟩ := by
  rw [Fin.sum_univ_add (a := 384) (b := 128) f, Fin.sum_univ_add (a := 256) (b := 128), Fin.sum_univ_add (a := 128) (b := 128)]
  congr 4
  funext k
  exact congrArg f (Fin.ext (Nat.zero_add _).symm)

/-- The dot of one lane group. -/
def gdot (x c : Fin 512 → EReal) (o : Nat) (h : o + 128 ≤ 512) : EReal := ∑ k : Fin 128, x ⟨o + k.val, by omega⟩ * c ⟨o + k.val, by omega⟩

/-- A cached score before the softmax scale, the kernel's way. -/
def kRaw (x c : Fin 512 → EReal) (s : Fin 4 → EReal) (q k : Fin 64 → EReal) : EReal :=
  (∑ d, q d * k d) + gdot x c 0 (by omega) * s 0 + gdot x c 128 (by omega) * s 1 + gdot x c 256 (by omega) * s 2 + gdot x c 384 (by omega) * s 3

/-- The same, the reference's way. -/
def rRaw (x c : Fin 512 → EReal) (s : Fin 4 → EReal) (q k : Fin 64 → EReal) : EReal :=
  (∑ l, x l * (c l * s ⟨l.val / 128, by omega⟩)) + ∑ d, q d * k d

/-- With finite nonnegative scales the two are equal, whatever the queries, codes and keys. -/
theorem kRaw_eq (x c : Fin 512 → EReal) (s : Fin 4 → EReal) (q k : Fin 64 → EReal) (h0 : ∀ g, 0 ≤ s g) (h1 : ∀ g, s g ≠ ⊤) :
    kRaw x c s q k = rRaw x c s q k := by
  have part : ∀ (g : Fin 4) (o : Nat) (ho : o = 128 * g.val) (h : o + 128 ≤ 512),
      (∑ i : Fin 128, x ⟨o + i.val, by omega⟩ * (c ⟨o + i.val, by omega⟩ * s ⟨(o + i.val) / 128, by omega⟩)) = gdot x c o h * s g := by
    intro g o ho h
    unfold gdot
    rw [sum_mul_scale _ _ (h0 g) (h1 g)]
    refine Finset.sum_congr rfl fun i _ => ?_
    have hg : (⟨(o + i.val) / 128, by omega⟩ : Fin 4) = g := Fin.ext (by show (o + i.val) / 128 = g.val; omega)
    rw [hg, mul_assoc]
  unfold kRaw rRaw
  rw [sum512 (fun l => x l * (c l * s ⟨l.val / 128, by omega⟩)), part 0 0 rfl (by omega), part 1 128 rfl (by omega),
    part 2 256 rfl (by omega), part 3 384 rfl (by omega)]
  ac_rfl

/-! ## The softmax and the weighted sum -/

theorem exp_nonneg (x : EReal) : 0 ≤ Ideal.exp x := by
  induction x with
  | bot => exact le_refl _
  | top => exact le_top
  | coe r => exact EReal.coe_nonneg.2 (Real.exp_pos r).le

theorem exp_bot_sub (m : EReal) : Ideal.exp (⊥ - m) = 0 := by
  rw [sub_eq_add_neg, EReal.bot_add]; rfl

section Kernel

variable {n : Nat} (sc : Fin 640 → EReal) (sn : Fin n → EReal) (S c : Fin 640 → EReal) (v : Fin n → EReal)

/-- The greatest of the cached and the new scores. -/
def kMax : EReal := max (Finset.univ.sup sc) (Finset.univ.sup sn)
/-- The sum of exponentials. -/
def kSum : EReal := (∑ p, Ideal.exp (sc p - kMax sc sn)) + ∑ i, Ideal.exp (sn i - kMax sc sn)
/-- The output at one lane, the kernel's way. -/
def kOut : EReal :=
  (∑ p, Ideal.exp (sc p - kMax sc sn) * Ideal.div 1 (kSum sc sn) * S p * c p)
    + ∑ i, Ideal.exp (sn i - kMax sc sn) * Ideal.div 1 (kSum sc sn) * v i

/-- New lanes scored `⊥` change nothing. -/
theorem kOut_restrict {n' : Nat} (e : Fin n' → Fin n) (he : Function.Injective e) (hoff : ∀ i, i ∉ Set.range e → sn i = ⊥) :
    kOut sc sn S c v = kOut sc (fun i => sn (e i)) S c (fun i => v (e i)) := by
  have hM : kMax sc sn = kMax sc (fun i => sn (e i)) := by
    unfold kMax
    congr 1
    refine le_antisymm (Finset.sup_le fun i _ => ?_) (Finset.sup_le fun i _ => Finset.le_sup (f := sn) (Finset.mem_univ (e i)))
    by_cases hi : i ∈ Set.range e
    · obtain ⟨i', rfl⟩ := hi
      exact Finset.le_sup (f := fun i => sn (e i)) (Finset.mem_univ i')
    · rw [hoff i hi]; exact bot_le
  have hD : kSum sc sn = kSum sc (fun i => sn (e i)) := by
    unfold kSum
    rw [hM]
    congr 1
    exact (Fintype.sum_of_injective e he _ _ (fun i hi => by rw [hoff i hi, exp_bot_sub]) fun i => rfl).symm
  unfold kOut
  rw [hM, hD]
  congr 1
  exact (Fintype.sum_of_injective e he _ _ (fun i hi => by rw [hoff i hi, exp_bot_sub, zero_mul, zero_mul]) fun i => rfl).symm

end Kernel

section Reference

variable (t : Fin 642 → EReal) (S c : Fin 640 → EReal) (v : Fin 2 → EReal)

/-- The sum of exponentials of one joined row. -/
def rSum : EReal := ∑ i, Ideal.exp (t i - Finset.univ.sup t)
/-- The probability of one position. -/
def rProb (i : Fin 642) : EReal := if rSum t = 0 then 0 else Ideal.div (Ideal.exp (t i - Finset.univ.sup t)) (rSum t)
/-- The output at one lane, the reference's way. -/
def rOut : EReal := (∑ p : Fin 640, rProb t ⟨p.val, by omega⟩ * (c p * S p)) + ∑ i : Fin 2, rProb t ⟨640 + i.val, by omega⟩ * v i

/-- A row's sum is the sum over the cached positions and over the new ones. -/
theorem sum642 (f : Fin 642 → EReal) : ∑ i, f i = (∑ p : Fin 640, f ⟨p.val, by omega⟩) + ∑ i : Fin 2, f ⟨640 + i.val, by omega⟩ :=
  Fin.sum_univ_add (a := 640) (b := 2) f

/-- The two ways agree on any scores. -/
theorem kOut_eq (sc : Fin 640 → EReal) (sn : Fin 2 → EReal) (hc : ∀ p : Fin 640, t ⟨p.val, by omega⟩ = sc p)
    (hn : ∀ i : Fin 2, t ⟨640 + i.val, by omega⟩ = sn i) : kOut sc sn S c v = rOut t S c v := by
  have hM : kMax sc sn = Finset.univ.sup t := by
    unfold kMax
    refine le_antisymm (max_le (Finset.sup_le fun p _ => ?_) (Finset.sup_le fun i _ => ?_)) (Finset.sup_le fun i _ => ?_)
    · rw [← hc p]; exact Finset.le_sup (f := t) (Finset.mem_univ _)
    · rw [← hn i]; exact Finset.le_sup (f := t) (Finset.mem_univ _)
    · by_cases h : i.val < 640
      · have : t i = sc ⟨i.val, h⟩ := hc ⟨i.val, h⟩
        rw [this]; exact le_max_of_le_left (Finset.le_sup (f := sc) (Finset.mem_univ _))
      · have e : i = ⟨640 + (i.val - 640), by omega⟩ := Fin.ext (by show i.val = 640 + (i.val - 640); omega)
        have : t i = sn ⟨i.val - 640, by omega⟩ := (congrArg t e).trans (hn ⟨i.val - 640, by omega⟩)
        rw [this]; exact le_max_of_le_right (Finset.le_sup (f := sn) (Finset.mem_univ _))
  have hD : kSum sc sn = rSum t := by
    unfold kSum rSum
    rw [sum642, hM]
    simp only [hc, hn]
  have hp : ∀ i, Ideal.exp (t i - Finset.univ.sup t) * Ideal.div 1 (rSum t) = rProb t i := by
    intro i
    unfold rProb
    by_cases h : rSum t = 0
    · have h0 : Ideal.exp (t i - Finset.univ.sup t) = 0 :=
        (Finset.sum_eq_zero_iff_of_nonneg fun i _ => exp_nonneg _).1 h i (Finset.mem_univ i)
      rw [h0, zero_mul, if_pos h]
    · rw [if_neg h]; unfold Ideal.div; rw [if_neg h, if_neg h, one_mul]
  unfold kOut rOut
  rw [hM, hD]
  congr 1
  · refine Finset.sum_congr rfl fun p _ => ?_
    rw [← hp, hc]; ac_rfl
  · refine Finset.sum_congr rfl fun i _ => ?_
    rw [← hp, hn]

end Reference

/-! ## A row -/

section Row

variable (κ : EReal) (mk : Fin 640 → BitVec 1) (x : Fin 512 → EReal) (q : Fin 64 → EReal) (C : Fin 640 → Fin 512 → EReal)
  (S : Fin 640 → Fin 4 → EReal) (K : Fin 640 → Fin 64 → EReal)

/-- A masked cached score, the kernel's way. -/
def kScore (p : Fin 640) : EReal := Scalar.select (mk p) (kRaw x (C p) (S p) q (K p) * κ) ⊥
/-- A masked cached score, the reference's way. -/
def rScore (p : Fin 640) : EReal := Scalar.select (mk p) (rRaw x (C p) (S p) q (K p) * κ) ⊥
/-- A masked score against a new token. -/
def nScore {n : Nat} (ow : Fin n → BitVec 1) (V : Fin n → Fin 512 → EReal) (R : Fin n → Fin 64 → EReal) (i : Fin n) : EReal :=
  Scalar.select (ow i) (((∑ l, x l * V i l) + ∑ d, q d * R i d) * κ) ⊥

/-- A row's output at lane `l`, the kernel's way: new tokens on twenty lanes, of which `ow` marks the row's own. -/
def kRow (ow : Fin 20 → BitVec 1) (V : Fin 20 → Fin 512 → EReal) (R : Fin 20 → Fin 64 → EReal) (l : Fin 512) : EReal :=
  kOut (kScore κ mk x q C S K) (nScore κ x q ow V R) (fun p => S p ⟨l.val / 128, by omega⟩) (fun p => C p l) (fun i => V i l)

/-- The joined row of scores. -/
def joined (ow : Fin 2 → BitVec 1) (V : Fin 2 → Fin 512 → EReal) (R : Fin 2 → Fin 64 → EReal) (i : Fin 642) : EReal :=
  if h : i.val < 640 then rScore κ mk x q C S K ⟨i.val, h⟩ else nScore κ x q ow V R ⟨i.val - 640, by omega⟩

/-- A row's output at lane `l`, the reference's way. -/
def rRow (ow : Fin 2 → BitVec 1) (V : Fin 2 → Fin 512 → EReal) (R : Fin 2 → Fin 64 → EReal) (l : Fin 512) : EReal :=
  rOut (joined κ mk x q C S K ow V R) (fun p => S p ⟨l.val / 128, by omega⟩) (fun p => C p l) (fun i => V i l)

/-- THE ROW: with finite nonnegative scales, and `e` the lanes of the sequence's own two tokens, the two ways agree. -/
theorem kRow_eq (h0 : ∀ p g, 0 ≤ S p g) (h1 : ∀ p g, S p g ≠ ⊤) (ow : Fin 20 → BitVec 1) (V : Fin 20 → Fin 512 → EReal)
    (R : Fin 20 → Fin 64 → EReal) (e : Fin 2 → Fin 20) (he : Function.Injective e) (hoff : ∀ i, i ∉ Set.range e → ow i = 0) (l : Fin 512) :
    kRow κ mk x q C S K ow V R l = rRow κ mk x q C S K (fun i => ow (e i)) (fun i => V (e i)) (fun i => R (e i)) l := by
  unfold kRow rRow
  rw [kOut_restrict _ _ _ _ _ e he fun i hi => by unfold nScore Scalar.select; rw [hoff i hi]; rfl]
  refine kOut_eq _ _ _ _ _ _ (fun p => ?_) fun i => ?_
  · have hp := p.isLt
    unfold joined
    rw [dif_pos (show (⟨p.val, by omega⟩ : Fin 642).val < 640 from hp)]
    unfold kScore rScore
    rw [kRaw_eq _ _ _ _ _ (h0 p) (h1 p)]
  · unfold joined
    rw [dif_neg (show ¬(⟨640 + i.val, by omega⟩ : Fin 642).val < 640 from Nat.not_lt.2 (Nat.le_add_right _ _))]
    have e : (⟨640 + i.val - 640, by omega⟩ : Fin 2) = i := Fin.ext (Nat.add_sub_cancel_left _ _)
    rw [e]
    rfl

end Row

end Cert.Attn

end
-- ==== Proof.Step.lean ====
/- ONE GRID STEP OVER THE EXTENDED REALS: the output block's entry at sequence `j`, row `r`, lane `l` is that row of the attention, the kernel's way
   (Proof/Attn.lean), at the step's blocks. -/
module

public import proofs.«01_k».proof.Proof.Pieces
public import proofs.«01_k».proof.Proof.Read
public import proofs.«01_k».proof.Proof.Attn

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Cert

/-- The pattern of −∞ is `⊥`. -/
theorem negInf : Ideal.ofBits .f32 0xFF800000#32 = ⊥ := by simp [Ideal.ofBits, Ideal.ieee]

/-- The softmax scale, as the constant both programs print. -/
def kappa : EReal := Ideal.ofBits .f32 0x3D93CD3A#32

variable (c : Dev nD) (i : grid0.Coords) (x0 : Vec Ideal S10x32x512 .bf16) (x1 : Vec Ideal S10x32x64 .bf16) (x2 : Vec Ideal S1x20x512 .bf16)
    (x3 : Vec Ideal S1x20x64 .bf16) (x4 : Vec Ideal S10x640x512 .fp8e4m3) (x5 : Vec Ideal S10x4x640 .f32) (x6 : Vec Ideal S10x64x640 .bf16)
    (xt0 : TbBuf0 (F := Ideal) c tbM0_0) (j : Fin 10)

/-- The step's loads of sequence `j`. -/
abbrev Lj : Loads Ideal := loads c i x0 x1 x2 x3 x4 x5 x6 xt0 j

/-- Which new-token lanes row `r` of sequence `j` sees. -/
def ownAt (j : Fin 10) (r : Fin 32) (n : Fin 20) : BitVec 1 := BitVec.ofBool (decide (2 * j.val ≤ n.val ∧ n.val ≤ 2 * j.val + r.val / 16))

theorem lx (r : Fin 32) (l : Fin 512) : (Lj c i x0 x1 x2 x3 x4 x5 x6 xt0 j).x (ix3 (0 : Fin 1) r l) = x0 (ix3 j r l) := by
  unfold Lj loads; pointwise
theorem lqr (r : Fin 32) (l : Fin 64) : (Lj c i x0 x1 x2 x3 x4 x5 x6 xt0 j).qr (ix3 (0 : Fin 1) r l) = x1 (ix3 j r l) := by
  unfold Lj loads; pointwise
theorem lkvn (n : Fin 20) (l : Fin 512) : (Lj c i x0 x1 x2 x3 x4 x5 x6 xt0 j).kvn (ix3 (0 : Fin 1) n l) = x2 (ix3 (0 : Fin 1) n l) := by
  unfold Lj loads; pointwise
theorem lkrn (n : Fin 20) (l : Fin 64) : (Lj c i x0 x1 x2 x3 x4 x5 x6 xt0 j).krn (ix3 (0 : Fin 1) n l) = x3 (ix3 (0 : Fin 1) n l) := by
  unfold Lj loads; pointwise
theorem lc0 (p : Fin 640) (l : Fin 256) : (Lj c i x0 x1 x2 x3 x4 x5 x6 xt0 j).c0 (ix3 (0 : Fin 1) p l) = x4 (ix3 j p (⟨l.val, by omega⟩ : Fin 512)) := by
  unfold Lj loads; pointwise
theorem lc1 (p : Fin 640) (l : Fin 256) : (Lj c i x0 x1 x2 x3 x4 x5 x6 xt0 j).c1 (ix3 (0 : Fin 1) p l) = x4 (ix3 j p (⟨256 + l.val, by omega⟩ : Fin 512)) := by
  unfold Lj loads; pointwise
theorem ls0 (p : Fin 640) : (Lj c i x0 x1 x2 x3 x4 x5 x6 xt0 j).s0 (ix3 (0 : Fin 1) (0 : Fin 1) p) = x5 (ix3 j (0 : Fin 4) p) := by
  unfold Lj loads; pointwise
theorem ls1 (p : Fin 640) : (Lj c i x0 x1 x2 x3 x4 x5 x6 xt0 j).s1 (ix3 (0 : Fin 1) (0 : Fin 1) p) = x5 (ix3 j (1 : Fin 4) p) := by
  unfold Lj loads; pointwise
theorem ls2 (p : Fin 640) : (Lj c i x0 x1 x2 x3 x4 x5 x6 xt0 j).s2 (ix3 (0 : Fin 1) (0 : Fin 1) p) = x5 (ix3 j (2 : Fin 4) p) := by
  unfold Lj loads; pointwise
theorem ls3 (p : Fin 640) : (Lj c i x0 x1 x2 x3 x4 x5 x6 xt0 j).s3 (ix3 (0 : Fin 1) (0 : Fin 1) p) = x5 (ix3 j (3 : Fin 4) p) := by
  unfold Lj loads; pointwise
theorem ls01a (p : Fin 640) : (Lj c i x0 x1 x2 x3 x4 x5 x6 xt0 j).s01 (ix3 (0 : Fin 1) (0 : Fin 2) p) = x5 (ix3 j (0 : Fin 4) p) := by
  unfold Lj loads; pointwise
theorem ls01b (p : Fin 640) : (Lj c i x0 x1 x2 x3 x4 x5 x6 xt0 j).s01 (ix3 (0 : Fin 1) (1 : Fin 2) p) = x5 (ix3 j (1 : Fin 4) p) := by
  unfold Lj loads; pointwise
theorem ls23a (p : Fin 640) : (Lj c i x0 x1 x2 x3 x4 x5 x6 xt0 j).s23 (ix3 (0 : Fin 1) (0 : Fin 2) p) = x5 (ix3 j (2 : Fin 4) p) := by
  unfold Lj loads; pointwise
theorem ls23b (p : Fin 640) : (Lj c i x0 x1 x2 x3 x4 x5 x6 xt0 j).s23 (ix3 (0 : Fin 1) (1 : Fin 2) p) = x5 (ix3 j (3 : Fin 4) p) := by
  unfold Lj loads; pointwise
theorem lkr (d : Fin 64) (p : Fin 640) : (Lj c i x0 x1 x2 x3 x4 x5 x6 xt0 j).kr (ix3 (0 : Fin 1) d p) = x6 (ix3 j d p) := by
  unfold Lj loads; pointwise

/-- The cached scores of the step are the row's. -/
theorem scoreC_eq (r : Fin 32) (p : Fin 640) :
    scoreC (Lj c i x0 x1 x2 x3 x4 x5 x6 xt0 j) (ix2 r p)
      = Attn.kScore kappa (fun p => IntOp.cmpi .slt (BitVec.ofNat 32 p.val) (Lj c i x0 x1 x2 x3 x4 x5 x6 xt0 j).len) (fun l => x0 (ix3 j r l))
          (fun d => x1 (ix3 j r d)) (fun p l => x4 (ix3 j p l)) (fun p g => x5 (ix3 j g p)) (fun p d => x6 (ix3 j d p)) p := by
  rw [scoreC_apply, negInf]
  unfold Attn.kScore Attn.kRaw gdot Attn.gdot kappa
  simp only [lx, lqr, lkr, lc0, lc1, ls0, ls1, ls2, ls3]
  simp only [← Nat.add_assoc, Nat.reduceAdd, Nat.zero_add]

/-- The new-token scores of the step are the row's. -/
theorem scoreN_eq (r : Fin 32) (n : Fin 20) :
    scoreN (Lj c i x0 x1 x2 x3 x4 x5 x6 xt0 j) (BitVec.ofNat 32 (2 * j.val)) (ix2 r n)
      = Attn.nScore kappa (fun l => x0 (ix3 j r l)) (fun d => x1 (ix3 j r d)) (ownAt j r) (fun n l => x2 (ix3 (0 : Fin 1) n l))
          (fun n d => x3 (ix3 (0 : Fin 1) n d)) n := by
  rw [scoreN_apply, negInf, own_apply]
  unfold Attn.nScore kappa ownAt
  simp only [lx, lqr, lkvn, lkrn]

/-- A row of the step at lane `l`. -/
def stepRow (len : BitVec 32) (j : Fin 10) (r : Fin 32) (l : Fin 512) : EReal :=
  Attn.kRow kappa (fun p => IntOp.cmpi .slt (BitVec.ofNat 32 p.val) len) (fun l => x0 (ix3 j r l)) (fun d => x1 (ix3 j r d))
    (fun p l => x4 (ix3 j p l)) (fun p g => x5 (ix3 j g p)) (fun p d => x6 (ix3 j d p)) (ownAt j r) (fun n l => x2 (ix3 (0 : Fin 1) n l))
    (fun n d => x3 (ix3 (0 : Fin 1) n d)) l

/-- A row whose scores are these, with these scales and codes at a lane, is the row of the attention at that lane. -/
theorem row_of (r : Fin 32) (l : Fin 512) (S C : Fin 640 → EReal) (hS : ∀ p, S p = x5 (ix3 j (⟨l.val / 128, by omega⟩ : Fin 4) p))
    (hC : ∀ p, C p = x4 (ix3 j p l)) :
    (∑ p : Fin 640, probC (Lj c i x0 x1 x2 x3 x4 x5 x6 xt0 j) (BitVec.ofNat 32 (2 * j.val)) (ix2 r p) * S p * C p)
        + ∑ n : Fin 20, probN (Lj c i x0 x1 x2 x3 x4 x5 x6 xt0 j) (BitVec.ofNat 32 (2 * j.val)) (ix2 r n)
            * (Lj c i x0 x1 x2 x3 x4 x5 x6 xt0 j).kvn (ix3 (0 : Fin 1) n l)
      = stepRow x0 x1 x2 x3 x4 x5 x6 (Lj c i x0 x1 x2 x3 x4 x5 x6 xt0 j).len j r l := by
  unfold stepRow Attn.kRow Attn.kOut Attn.kSum Attn.kMax
  simp only [probC_apply, probN_apply, inv_apply, expC_apply, expN_apply, rowMax_apply, scoreC_eq, scoreN_eq, negInf, lkvn, hS, hC]
  rfl

/-- Every store of sequence `j` is the row's lanes of its lane group. -/
theorem piece_eq (g : Fin 4) (r : Fin 32) (k : Fin 128) :
    piece (Lj c i x0 x1 x2 x3 x4 x5 x6 xt0 j) (BitVec.ofNat 32 (2 * j.val)) g (ix3 (0 : Fin 1) r k)
      = stepRow x0 x1 x2 x3 x4 x5 x6 (Lj c i x0 x1 x2 x3 x4 x5 x6 xt0 j).len j r (⟨128 * g.val + k.val, by omega⟩ : Fin 512) := by
  rw [← row_of c i x0 x1 x2 x3 x4 x5 x6 xt0 j r ⟨128 * g.val + k.val, by omega⟩ (fun p => x5 (ix3 j g p))
    (fun p => x4 (ix3 j p (⟨128 * g.val + k.val, by omega⟩ : Fin 512))) (fun p => by
      have hg : (⟨(128 * g.val + k.val) / 128, by omega⟩ : Fin 4) = g := Fin.ext (by show (128 * g.val + k.val) / 128 = g.val; omega)
      exact (congrArg (fun g => x5 (ix3 j g p)) hg).symm) (fun p => rfl)]
  match g with
  | ⟨0, _⟩ =>
    refine (piece0_apply _ _ r k).trans ?_
    simp only [ls01a, lc0, Nat.mul_zero, Nat.zero_add]
    rfl
  | ⟨1, _⟩ =>
    refine (piece1_apply _ _ r k).trans ?_
    simp only [ls01b, lc0, Nat.mul_one]
    rfl
  | ⟨2, _⟩ =>
    refine (piece2_apply _ _ r k).trans ?_
    simp only [ls23a, lc1, Nat.reduceMul]
    rfl
  | ⟨3, _⟩ =>
    refine (piece3_apply _ _ r k).trans ?_
    simp only [ls23b, lc1, Nat.reduceMul, ← Nat.add_assoc, Nat.reduceAdd]
    rfl

/-- THE STEP'S OUTPUT BLOCK, entry by entry. -/
theorem out_eq (arg2 : Memref sig .tc .vmem S10x32x512 .bf16) (harg2 : arg2.IsWhole) (arg3 : Memref sig .tc .vmem S10x32x64 .bf16) (harg3 : arg3.IsWhole)
    (arg4 : Memref sig .tc .vmem S1x20x512 .bf16) (harg4 : arg4.IsWhole) (arg5 : Memref sig .tc .vmem S1x20x64 .bf16) (harg5 : arg5.IsWhole)
    (arg6 : Memref sig .tc .vmem S10x640x512 .fp8e4m3) (harg6 : arg6.IsWhole) (arg7 : Memref sig .tc .vmem S10x4x640 .f32) (harg7 : arg7.IsWhole)
    (arg8 : Memref sig .tc .vmem S10x64x640 .bf16) (harg8 : arg8.IsWhole) (arg9 : Memref sig .tc .vmem S10x32x512 .bf16) (harg9 : arg9.IsWhole)
    (y : S10x32x512.Idx) :
    out0_A_7 c i arg2 harg2 arg3 harg3 arg4 harg4 arg5 harg5 arg6 harg6 arg7 harg7 arg8 harg8 arg9 harg9 x0 x1 x2 x3 x4 x5 x6 xt0 y
      = stepRow x0 x1 x2 x3 x4 x5 x6 (Lj c i x0 x1 x2 x3 x4 x5 x6 xt0 (y 0)).len (y 0) (y 1) (y 2) := by
  unfold out0_A_7
  refine View.read_writes_apply_of_pieces (v := VO0_7) _
    (fun y : S10x32x512.Idx => stepRow x0 x1 x2 x3 x4 x5 x6 (Lj c i x0 x1 x2 x3 x4 x5 x6 xt0 (y 0)).len (y 0) (y 1) (y 2)) _ ?_ y
    (cover0_A_7 c i arg2 harg2 arg3 harg3 arg4 harg4 arg5 harg5 arg6 harg6 arg7 harg7 arg8 harg8 arg9 harg9 x0 x1 x2 x3 x4 x5 x6 xt0 y)
  intro p hp
  obtain ⟨j, g, rfl⟩ := pieces c i arg2 harg2 arg3 harg3 arg4 harg4 arg5 harg5 arg6 harg6 arg7 harg7 arg8 harg8 arg9 harg9 x0 x1 x2 x3 x4 x5 x6 xt0 p hp
  intro x
  obtain ⟨u, r, k, rfl⟩ : ∃ (u : Fin 1) (r : Fin 32) (k : Fin 128), x = ix3 u r k := ⟨x 0, x 1, x 2, ValueIdx.eq_ix3 x⟩
  obtain rfl : u = 0 := Fin.fin_one_eq_zero u
  refine (piece_eq c i x0 x1 x2 x3 x4 x5 x6 xt0 j g r k).trans ?_
  have e0 : (seqPiece (loads c i x0 x1 x2 x3 x4 x5 x6 xt0) j g).1.emb (ix3 (0 : Fin 1) r k) 0 = j := Fin.ext (by show j.val + 1 * 0 = j.val; omega)
  have e1 : (seqPiece (loads c i x0 x1 x2 x3 x4 x5 x6 xt0) j g).1.emb (ix3 (0 : Fin 1) r k) 1 = r := Fin.ext (by show 0 + 1 * r.val = r.val; omega)
  have e2 : (seqPiece (loads c i x0 x1 x2 x3 x4 x5 x6 xt0) j g).1.emb (ix3 (0 : Fin 1) r k) 2 = (⟨128 * g.val + k.val, by omega⟩ : Fin 512) :=
    Fin.ext (by show 128 * g.val + 1 * k.val = 128 * g.val + k.val; omega)
  show _ = stepRow x0 x1 x2 x3 x4 x5 x6 (Lj c i x0 x1 x2 x3 x4 x5 x6 xt0 _).len _ _ _
  rw [e0, e1, e2]

end Cert.KernelIdeal.Hand

end
-- ==== Proof.Ref.lean ====
/- THE REFERENCE, ENTRY BY ENTRY, OVER THE EXTENDED REALS: its result at sequence `b`, token `t`, head `h`, lane `l` is the plain row of the attention
   (`Attn.rRow`, Proof/Attn.lean) at the sequence's own queries, cache and new tokens. -/
module

public import proofs.«01_k».proof.Proof.Gen.ReferenceIdeal.Read
public import proofs.«01_k».proof.Proof.Attn
public import Idealize.ShloMosaic.Lib.Pointwise

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic
open Idealize.SL.Sem
open Cert

/-- The pattern of −∞ is `⊥`. -/
theorem negInf : Ideal.ofBits .f32 0xFF800000#32 = ⊥ := by simp [Ideal.ofBits, Ideal.ieee]

/-- The softmax scale, as the reference prints it. -/
def kappa : EReal := Ideal.ofBits .f32 0x3D93CD3A#32

variable (x0 : Vec Ideal S1100x2x16x512 .bf16) (x1 : Vec Ideal S1100x2x16x64 .bf16) (x2 : Vec Ideal S1100x2x512 .bf16) (x3 : Vec Ideal S1100x2x64 .bf16)
  (x6 : Vec Ideal S1100x640x64 .bf16) (x7 : Vec Ideal S1100 .i32) (r0 : Vec Ideal S1100x640x512 .bf16)
  (C : Vec Ideal S1100x640x512 .fp8e4m3) (S : Vec Ideal S1100x640x4 .f32)

/-- The cached scores of sequence `b`, token `t`, head `h`, when the latents are codes times scales. -/
abbrev sC (b : Fin 1100) (t : Fin 2) (h : Fin 16) : Fin 640 → EReal :=
  Attn.rScore kappa (fun p => IntOp.cmpi .slt (BitVec.ofNat 32 p.val) (x7 (ix1 b))) (fun l => x0 (ix4 b t h l)) (fun d => x1 (ix4 b t h d))
    (fun p l => C (ix3 b p l)) (fun p g => S (ix3 b p g)) (fun p d => x6 (ix3 b p d))

/-- The new tokens' scores. -/
abbrev sN (b : Fin 1100) (t : Fin 2) (h : Fin 16) : Fin 2 → EReal :=
  Attn.nScore kappa (fun l => x0 (ix4 b t h l)) (fun d => x1 (ix4 b t h d)) (fun i : Fin 2 => IntOp.cmpi .sge (BitVec.ofNat 32 t.val) (BitVec.ofNat 32 i.val))
    (fun i l => x2 (ix3 b i l)) (fun i d => x3 (ix3 b i d))

/-- The two joined. -/
abbrev sJ (b : Fin 1100) (t : Fin 2) (h : Fin 16) : Fin 642 → EReal :=
  Attn.joined kappa (fun p => IntOp.cmpi .slt (BitVec.ofNat 32 p.val) (x7 (ix1 b))) (fun l => x0 (ix4 b t h l)) (fun d => x1 (ix4 b t h d))
    (fun p l => C (ix3 b p l)) (fun p g => S (ix3 b p g)) (fun p d => x6 (ix3 b p d))
    (fun i : Fin 2 => IntOp.cmpi .sge (BitVec.ofNat 32 t.val) (BitVec.ofNat 32 i.val)) (fun i l => x2 (ix3 b i l)) (fun i d => x3 (ix3 b i d))

/-- The whole row of the result. -/
abbrev row (b : Fin 1100) (t : Fin 2) (h : Fin 16) (l : Fin 512) : EReal :=
  Attn.rRow kappa (fun p => IntOp.cmpi .slt (BitVec.ofNat 32 p.val) (x7 (ix1 b))) (fun l => x0 (ix4 b t h l)) (fun d => x1 (ix4 b t h d))
    (fun p l => C (ix3 b p l)) (fun p g => S (ix3 b p g)) (fun p d => x6 (ix3 b p d))
    (fun i : Fin 2 => IntOp.cmpi .sge (BitVec.ofNat 32 t.val) (BitVec.ofNat 32 i.val)) (fun i l => x2 (ix3 b i l)) (fun i d => x3 (ix3 b i d)) l

/-- The new tokens' masked, scaled scores. -/
theorem new_scores (b : Fin 1100) (t : Fin 2) (h : Fin 16) (i : Fin 2) :
    val_main_v27 x0 x1 x2 x3 (ix4 b t h i) = sN x0 x1 x2 x3 b t h i := by
  unfold val_main_v27 val_main_v10 val_main_v9 val_main_cst_0 val_main_v8 val_main_v6 val_main_v7 val_main_call1_v1 val_main_call1_v2 val_main_call1_v0
    val_main_cst_2 val_main_v26 val_main_v25 val_main_v24 val_main_v23 val_main_v22 val_main_v21 val_main_v20 val_main_v19
  pointwise
  exact congrArg (fun z => Scalar.select _ _ z) negInf

section
variable (hr : ∀ b p l, r0 (ix3 b p l) = C (ix3 b p l) * S (ix3 b p (⟨l.val / 128, by omega⟩ : Fin 4)))
include hr

/-- The cached positions' masked, scaled scores. -/
theorem cached_scores (b : Fin 1100) (t : Fin 2) (h : Fin 16) (p : Fin 640) :
    val_main_v18 x0 x1 x6 x7 r0 (ix4 b t h p) = sC x0 x1 x6 x7 C S b t h p := by
  unfold val_main_v18 val_main_v5 val_main_v4 val_main_cst val_main_v3 val_main_v1 val_main_v2 val_main_call0_v1 val_main_call0_v2 val_main_call0_v0
    val_main_cst_1 val_main_v17 val_main_v16 val_main_v14 val_main_v15 val_main_v13 val_main_v12 val_main_v11
  pointwise
  simp only [hr]
  exact congrArg (fun z => Scalar.select _ _ z) negInf

/-- The row of 642 scores. -/
theorem scores (b : Fin 1100) (t : Fin 2) (h : Fin 16) (p : Fin 642) :
    val_main_v28 x0 x1 x2 x3 x6 x7 r0 (ix4 b t h p) = sJ x0 x1 x2 x3 x6 x7 C S b t h p := by
  unfold val_main_v28
  pointwise
  simp only [cached_scores x0 x1 x6 x7 r0 C S hr, new_scores x0 x1 x2 x3]
  rfl

/-- The row's largest score. -/
theorem row_max (b : Fin 1100) (t : Fin 2) (h : Fin 16) :
    val_main_v29 x0 x1 x2 x3 x6 x7 r0 (ix3 b t h) = Finset.univ.sup (sJ x0 x1 x2 x3 x6 x7 C S b t h) := by
  unfold val_main_v29 val_main_cst_3
  pointwise
  simp only [scores x0 x1 x2 x3 x6 x7 r0 C S hr, negInf]
  rfl

/-- The exponentials. -/
theorem exps (b : Fin 1100) (t : Fin 2) (h : Fin 16) (p : Fin 642) :
    val_main_v33 x0 x1 x2 x3 x6 x7 r0 (ix4 b t h p)
      = Ideal.exp (sJ x0 x1 x2 x3 x6 x7 C S b t h p - Finset.univ.sup (sJ x0 x1 x2 x3 x6 x7 C S b t h)) := by
  unfold val_main_v33 val_main_v32 val_main_v31 val_main_v30
  pointwise
  rw [scores x0 x1 x2 x3 x6 x7 r0 C S hr, row_max x0 x1 x2 x3 x6 x7 r0 C S hr]

/-- Their sum. -/
theorem sums (b : Fin 1100) (t : Fin 2) (h : Fin 16) :
    val_main_v34 x0 x1 x2 x3 x6 x7 r0 (ix3 b t h) = Attn.rSum (sJ x0 x1 x2 x3 x6 x7 C S b t h) := by
  unfold val_main_v34 val_main_cst_4
  pointwise
  simp only [exps x0 x1 x2 x3 x6 x7 r0 C S hr]
  rfl

/-- The probabilities. -/
theorem probs (b : Fin 1100) (t : Fin 2) (h : Fin 16) (p : Fin 642) :
    val_main_v40 x0 x1 x2 x3 x6 x7 r0 (ix4 b t h p) = Attn.rProb (sJ x0 x1 x2 x3 x6 x7 C S b t h) p := by
  unfold val_main_v40 val_main_v39 val_main_call2_v1 val_main_call2_v2 val_main_call2_v0 val_main_cst_6 val_main_v38 val_main_v37 val_main_v36 val_main_v35
    val_main_cst_5
  pointwise
  rw [exps x0 x1 x2 x3 x6 x7 r0 C S hr, sums x0 x1 x2 x3 x6 x7 r0 C S hr]
  exact congrArg (fun z => ite _ z _) Ideal.ofBits_zero_f32

/-- THE REFERENCE'S RESULT, entry by entry. -/
theorem result (b : Fin 1100) (t : Fin 2) (h : Fin 16) (l : Fin 512) :
    val_main_v47 x0 x1 x2 x3 x6 x7 r0 (ix4 b t h l) = row x0 x1 x2 x3 x6 x7 C S b t h l := by
  unfold val_main_v47 val_main_v46 val_main_v45 val_main_v44 val_main_v43 val_main_v42 val_main_v41
  pointwise
  simp only [probs x0 x1 x2 x3 x6 x7 r0 C S hr, hr]
  rfl
end

/-- What the latents' kernel stores: code times its group's scale. -/
theorem latents (b : Fin 1100) (p : Fin 640) (l : Fin 512) :
    k0_pay1 C S (ix3 b p l) = C (ix3 b p l) * S (ix3 b p (⟨l.val / 128, by omega⟩ : Fin 4)) := by
  unfold k0_pay1
  pointwise

end Cert.ReferenceIdeal.Hand

end
-- ==== Proof.Rows.lean ====
/- A ROW OF A GRID STEP AGAINST THE REFERENCE: the blocks of a step, read off the arguments, make the step's row the row of the reference. -/
module

public import proofs.«01_k».proof.Proof.Blocks
public import proofs.«01_k».proof.Proof.Step
public import proofs.«01_k».proof.Proof.Ref

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (hO : Ok m) (c : Dev nD) (t : Fin (cfgM m hO).N)

/-- The attention row of sequence `b`, token `s`, head `h` at lane `l`, as the reference writes it, on the argument arrays of core `c`. -/
def rowOf (b : Fin 1100) (s : Fin 2) (h : Fin 16) (l : Fin 512) : EReal :=
  Cert.ReferenceIdeal.Hand.row (m ((c : Thread nD τ).loc main_arg0)) (m ((c : Thread nD τ).loc main_arg1)) (m ((c : Thread nD τ).loc main_arg2))
    (m ((c : Thread nD τ).loc main_arg3)) (m ((c : Thread nD τ).loc main_arg6)) (m ((c : Thread nD τ).loc main_arg7))
    (m ((c : Thread nD τ).loc main_arg4)) (m ((c : Thread nD τ).loc main_arg5)) b s h l

/-- The causal mask between a sequence's own two tokens, as a comparison of numbers. -/
theorem mask_eq : ∀ a i : Fin 2, IntOp.cmpi .sge (BitVec.ofNat 32 a.val) (BitVec.ofNat 32 i.val) = BitVec.ofBool (decide (i.val ≤ a.val)) := by decide

/-- The lane of the step's twenty new tokens at which place `j`'s own token `i` stands. -/
abbrev laneOf (j : Fin 10) (i : Fin 2) : Fin 20 := ⟨2 * j.val + i.val, by omega⟩

/-- ONE ROW OF A STEP: with finite nonnegative scales it is the reference's row of the step's own sequence. -/
theorem stepRow_eq (hs0 : ∀ b p g, (0 : EReal) ≤ m ((c : Thread nD τ).loc main_arg5) (ix3 b p g))
    (hs1 : ∀ b p g, m ((c : Thread nD τ).loc main_arg5) (ix3 b p g) ≠ (⊤ : EReal)) (j : Fin 10) (r : Fin 32) (l : Fin 512) :
    stepRow (iblk m hO c 0 t) (iblk m hO c 1 t) (iblk m hO c 2 t) (iblk m hO c 3 t) (iblk m hO c 4 t) (iblk m hO c 5 t) (iblk m hO c 6 t)
        (m ((c : Thread nD τ).loc main_arg7) (ix1 (seqOf (grid0.coords t) j))) j r l
      = rowOf m c (seqOf (grid0.coords t) j) (⟨r.val / 16, by omega⟩ : Fin 2) (⟨r.val % 16, by omega⟩ : Fin 16) l := by
  have f0 : (fun l => iblk m hO c 0 t (ix3 j r l)) = fun l => m ((c : Thread nD τ).loc main_arg0)
      (ix4 (seqOf (grid0.coords t) j) (⟨r.val/16, by omega⟩ : Fin 2) (⟨r.val % 16, by omega⟩ : Fin 16) l) :=
    funext fun l => (blk0 m hO c t j r l).trans (arr_x m c _ r l)
  have f1 : (fun l => iblk m hO c 1 t (ix3 j r l)) = fun l => m ((c : Thread nD τ).loc main_arg1)
      (ix4 (seqOf (grid0.coords t) j) (⟨r.val/16, by omega⟩ : Fin 2) (⟨r.val % 16, by omega⟩ : Fin 16) l) :=
    funext fun l => (blk1 m hO c t j r l).trans (arr_qrope m c _ r l)
  have f4 : (fun p l => iblk m hO c 4 t (ix3 j p l)) = fun p l => m ((c : Thread nD τ).loc main_arg4) (ix3 (seqOf (grid0.coords t) j) p l) :=
    funext fun p => funext fun l => (blk4 m hO c t j p l).trans (congrFun (V_main_arg4 m c) _)
  have f5 : (fun p g => iblk m hO c 5 t (ix3 j g p)) = fun p g => m ((c : Thread nD τ).loc main_arg5) (ix3 (seqOf (grid0.coords t) j) p g) :=
    funext fun p => funext fun g => (blk5 m hO c t j g p).trans (arr_scale m c _ g p)
  have f6 : (fun p d => iblk m hO c 6 t (ix3 j d p)) = fun p d => m ((c : Thread nD τ).loc main_arg6) (ix3 (seqOf (grid0.coords t) j) p d) :=
    funext fun p => funext fun d => (blk6 m hO c t j d p).trans (arr_krope m c _ d p)
  have tok (i : Fin 2) : (⟨(grid0.coords t 0).val * 10 + (2 * j.val + i.val) / 2, by have : (grid0.coords t 0).val < 110 := (grid0.coords t 0).isLt; omega⟩ : Fin 1100) = seqOf (grid0.coords t) j ∧
      (⟨(2 * j.val + i.val) % 2, by omega⟩ : Fin 2) = i :=
    ⟨Fin.ext (by show (grid0.coords t 0).val * 10 + (2 * j.val + i.val) / 2 = 10 * (grid0.coords t 0).val + j.val; omega),
     Fin.ext (by show (2 * j.val + i.val) % 2 = i.val; omega)⟩
  have f2 : (fun i l => iblk m hO c 2 t (ix3 (0 : Fin 1) (laneOf j i) l)) = fun (i : Fin 2) l => m ((c : Thread nD τ).loc main_arg2) (ix3 (seqOf (grid0.coords t) j) i l) := by
    funext i l
    refine (blk2 m hO c t 0 (laneOf j i) l).trans ((arr_kvn m c _ _ l).trans ?_)
    have h := tok i
    show m ((c : Thread nD τ).loc main_arg2) (ix3 (⟨(grid0.coords t 0).val * 10 + (2 * j.val + i.val) / 2, _⟩ : Fin 1100) (⟨(2 * j.val + i.val) % 2, _⟩ : Fin 2) l) = _
    rw [h.1, h.2]
  have f3 : (fun i l => iblk m hO c 3 t (ix3 (0 : Fin 1) (laneOf j i) l)) = fun (i : Fin 2) l => m ((c : Thread nD τ).loc main_arg3) (ix3 (seqOf (grid0.coords t) j) i l) := by
    funext i l
    refine (blk3 m hO c t 0 (laneOf j i) l).trans ((arr_krn m c _ _ l).trans ?_)
    have h := tok i
    show m ((c : Thread nD τ).loc main_arg3) (ix3 (⟨(grid0.coords t 0).val * 10 + (2 * j.val + i.val) / 2, _⟩ : Fin 1100) (⟨(2 * j.val + i.val) % 2, _⟩ : Fin 2) l) = _
    rw [h.1, h.2]
  have fm : (fun i => ownAt j r (laneOf j i)) = fun i : Fin 2 => IntOp.cmpi .sge (BitVec.ofNat 32 (r.val / 16)) (BitVec.ofNat 32 i.val) := by
    funext i
    refine Eq.trans ?_ (mask_eq (⟨r.val / 16, by omega⟩ : Fin 2) i).symm
    unfold ownAt
    refine congrArg BitVec.ofBool (decide_eq_decide.2 ?_)
    show (2 * j.val ≤ 2 * j.val + i.val ∧ 2 * j.val + i.val ≤ 2 * j.val + r.val / 16) ↔ i.val ≤ r.val / 16
    omega
  unfold stepRow
  simp only [f0, f1, f4, f5, f6]
  refine (Attn.kRow_eq kappa _ _ _ _ _ _ (fun p g => hs0 _ p g) (fun p g => hs1 _ p g) _ _ _ (laneOf j) ?_ ?_ l).trans ?_
  · intro a b h
    have := congrArg Fin.val h
    exact Fin.ext (by have : 2 * j.val + a.val = 2 * j.val + b.val := this; omega)
  · intro n hn
    unfold ownAt
    rw [decide_eq_false]; · rfl
    rintro ⟨h1, h2⟩
    exact hn ⟨⟨n.val - 2 * j.val, by omega⟩, Fin.ext (by show 2 * j.val + (n.val - 2 * j.val) = n.val; omega)⟩
  · simp only [f2, f3, fm]
    rfl

end Cert.KernelIdeal.Hand

end
-- ==== Proof.Pipe.lean ====
/- THE RUN OF THE KERNEL: the blocks that the grid's steps leave tile the output array, so the array ends holding the row of every sequence. -/
module

public import proofs.«01_k».proof.Proof.Rows
public import Idealize.ShloMosaic.Lib.Pipeline.Covers

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (hO : Ok m) (c : Dev nD) (t : Fin (cfgM m hO).N)

/-- The array that the grid leaves: every row of every sequence, the rows of a sequence in one axis. -/
def rowArr : FVec Ideal S1100x32x512 .bf16 := fun y => rowOf m c (y 0)
  (⟨(y 1).val / 16, by have : (y 1).val < 32 := (y 1).isLt; omega⟩ : Fin 2) (⟨(y 1).val % 16, by omega⟩ : Fin 16) (y 2)

/-- The table that the steps read is the lengths argument. -/
theorem tbl_eq (b : Fin 1100) : tbl m 0 (ix1 b) = m ((c : Thread nD τ).loc main_arg7) (ix1 b) :=
  (congrFun (V_pre m c 0) (ix1 b)).symm.trans (congrFun (V_main_arg7 m c) (ix1 b))

variable (hs0 : ∀ b p g, (0 : EReal) ≤ m ((c : Thread nD τ).loc main_arg5) (ix3 b p g))
  (hs1 : ∀ b p g, m ((c : Thread nD τ).loc main_arg5) (ix3 b p g) ≠ (⊤ : EReal))

include hs0 hs1 in
/-- What step `t` leaves in its output block. -/
theorem after_eq (j : Fin 10) (r : Fin 32) (l : Fin 512) :
    (dats m hO 0 c).after 7 t (ix3 j r l)
      = rowOf m c (seqOf (grid0.coords t) j) (⟨r.val / 16, by omega⟩ : Fin 2) (⟨r.val % 16, by omega⟩ : Fin 16) l := by
  refine (congrFun (after0_7 m hO c t) (ix3 j r l)).trans ?_
  refine (out_eq c (grid0.coords t) _ _ _ _ _ _ _ _ _ _ _ _ _ _ _ _ _ _ _ _ _ _ _ _ (ix3 j r l)).trans ?_
  refine Eq.trans ?_ (stepRow_eq m hO c t hs0 hs1 j r l)
  refine congrArg (fun n => stepRow _ _ _ _ _ _ _ n j r l) ?_
  exact (table_word c (grid0.coords t) (tbl m 0) j).trans (tbl_eq m c _)

/-- Where the step's output block lies in the output array. -/
theorem emb_eq (j : Fin 10) (r : Fin 32) (l : Fin 512) :
    (((cfgM m hO).win 7).blk t).view.emb (ix3 j r l : S10x32x512.Idx) = (ix3 (seqOf (grid0.coords t) j) r l : S1100x32x512.Idx) := by
  refine funext fun a => Fin.ext ?_
  blk_simp
  have h := place (grid0.coords t) 10 32 512 j.val r.val l.val
  fin_cases a
  exacts [h.1, h.2.1, h.2.2]

include hs0 hs1 in
/-- The output array after the grid. -/
theorem arr_eq : (dats m hO 0 c).arrAt 7 (cfgM m hO).N = rowArr m c := by
  refine Pipeline.Dat.arrAt_eq_of_cover _ 7 _ (fun t hf => funext fun (y : S10x32x512.Idx) => ?_) fun (i : S1100x32x512.Idx) => ?_
  · obtain ⟨j, r, l, rfl⟩ : ∃ (j : Fin 10) (r : Fin 32) (l : Fin 512), y = ix3 j r l := ⟨y 0, y 1, y 2, ValueIdx.eq_ix3 y⟩
    exact (after_eq m hO c t hs0 hs1 j r l).trans (congrArg (rowArr m c) (emb_eq m hO t j r l)).symm
  · obtain ⟨b, r, l, rfl⟩ : ∃ (b : Fin 1100) (r : Fin 32) (l : Fin 512), i = ix3 b r l := ⟨i 0, i 1, i 2, ValueIdx.eq_ix3 i⟩
    have hb := b.isLt
    obtain ⟨t, ht⟩ := grid0.coords_surjective (Fin.cases (⟨b.val / 10, by omega⟩ : Fin 110) fun a => a.elim0)
    refine ⟨t, flush0_7 _ t, ?_⟩
    have h := emb_eq m hO t (⟨b.val % 10, by omega⟩ : Fin 10) r l
    have hs : seqOf (grid0.coords t) (⟨b.val % 10, by omega⟩ : Fin 10) = b := Fin.ext (by
      have h0 : (grid0.coords t 0).val = b.val / 10 := congrArg (fun x : grid0.Coords => (x 0).val) ht
      show 10 * (grid0.coords t 0).val + b.val % 10 = b.val
      omega)
    rw [hs] at h
    exact h ▸ View.emb_mem_set _ _

/-- The kernel's result: the output array with the rows of a sequence in two axes, token and head. -/
def result : FVec Ideal S1100x2x16x512 .bf16 := fun y => rowOf m c (y 0) (y 1) (y 2) (y 3)

include hs0 hs1 in
/-- The result buffer after the lines that follow the grid. -/
theorem tail_eq : Pipeline.afterTail (pcfgs (F := Ideal)) (fun _ => adm m hO) (dats m hO) 0 (V0 m) [hostOps1] c main_v7 = result m c := by
  have h := Pipeline.withArrays_arr spec0 (launch0 (F := Ideal)).win.arr_inj c (V0 m c) (fun w => (dats m hO 0 c).arrAt w (cfgM m hO).N) 7
  unfold Pipeline.afterTail
  simp only [List.flatten_cons, List.flatten_nil, List.append_nil]
  entry_read
  refine (congrArg (fun A : FVec Ideal S1100x32x512 .bf16 => shapeCast S1100x2x16x512 A shapeCasts_S1100x32x512_S1100x2x16x512)
    (h.trans (arr_eq m hO c hs0 hs1))).trans (funext fun (y : S1100x2x16x512.Idx) => ?_)
  obtain ⟨b, s, q, l, rfl⟩ : ∃ (b : Fin 1100) (s : Fin 2) (q : Fin 16) (l : Fin 512), y = ix4 b s q l := ⟨y 0, y 1, y 2, y 3, ValueIdx.eq_ix4 y⟩
  pointwise
  have h0 : (⟨(s.val * 16 + q.val) / 16, by omega⟩ : Fin 2) = s := Fin.ext (by show (s.val * 16 + q.val) / 16 = s.val; omega)
  have h1 : (⟨(s.val * 16 + q.val) % 16, by omega⟩ : Fin 16) = q := Fin.ext (by show (s.val * 16 + q.val) % 16 = q.val; omega)
  show rowOf m c b (⟨(s.val * 16 + q.val) / 16, _⟩ : Fin 2) (⟨(s.val * 16 + q.val) % 16, _⟩ : Fin 16) l = rowOf m c b s q l
  rw [h0, h1]

variable (ρ : Dev nD → PrngReg)

/-- THE KERNEL'S RUN: with finite nonnegative scales it ends with `result` in the result buffer and the arguments as they were. -/
theorem run (hs : ∀ (c : Dev nD) b p g, (0 : EReal) ≤ m ((c : Thread nD τ).loc main_arg5) (ix3 b p g) ∧ m ((c : Thread nD τ).loc main_arg5) (ix3 b p g) ≠ (⊤ : EReal)) :
    θ_run defs (onTc (τ := τ) (main (F := Ideal))) ⟨m, fun _ => 0, ρ⟩ (fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.2 c).2 main_v7 (by decide : main_v7 ∈ Pipeline.restRefs sig spec0)).trans
      (tail_eq m trivial c (fun b p g => (hs c b p g).1) (fun b p g => (hs c b p g).2)), h.1 c⟩)
    (θ_run_and (unchanged m ρ trivial) (run_main m ρ trivial))

end Cert.KernelIdeal.Hand

end
-- ==== Proof.Latents.lean ====
/- THE RUN OF THE REFERENCE: what its one kernel call leaves (the cached latents, each code times its group's scale), and with it the whole result, entry
   by entry. -/
module

public import proofs.«01_k».proof.Proof.Ref
public import proofs.«01_k».proof.Proof.Gen.ReferenceIdeal.Run
public import proofs.«01_k».proof.Proof.Gen.ReferenceIdeal.Frame
public import Idealize.ShloMosaic.Lib.Pipeline.ValueKit

@[expose] public section

set_option maxRecDepth 16384

noncomputable section

namespace Cert.ReferenceIdeal.Hand

open Cert.ReferenceIdeal
open Idealize.ShloMosaic Idealize.ShloMosaic.TcCoe Idealize.ShloMosaic.Tactic
open Idealize.SL.Sem

variable (m : (ℓ : Loc nD τ sig) → Buf (Elt Ideal) ℓ) (c : Dev nD)

/-- The kernel call's output array: its stored value on the whole codes and scales. -/
theorem reg_eq : Value.reg_main_v0 m c
    = Gen.k0_pay1 (m ((c.tc : Thread nD τ).loc main_arg4)) (m ((c.tc : Thread nD τ).loc main_arg5)) := by
  unfold Value.reg_main_v0
  refine (Gen.dats m 0 c).arrAt_eq_of_covers 2 _ (by decide +kernel) fun t hf y => ?_
  blk_simp
  rw [Gen.after0_2]
  frame_out
  have hy : ((View.whole main_v0).slice (win0_2.rect t)).emb y = y := by
    refine funext fun a => Fin.ext ?_
    blk_simp
    show 0 * win0_2.size a + (y a).val = (y a).val
    rw [Nat.zero_mul, Nat.zero_add]
  have h4 : Gen.iblk m c 0 t = m ((c.tc : Thread nD τ).loc main_arg4) := by
    unfold Gen.iblk
    refine funext fun y => congrArg (Gen.V m c main_arg4) (funext fun a => Fin.ext ?_)
    blk_simp
    show 0 * win0_0.size a + (y a).val = (y a).val
    rw [Nat.zero_mul, Nat.zero_add]
  have h5 : Gen.iblk m c 1 t = m ((c.tc : Thread nD τ).loc main_arg5) := by
    unfold Gen.iblk
    refine funext fun y => congrArg (Gen.V m c main_arg5) (funext fun a => Fin.ext ?_)
    blk_simp
    show 0 * win0_1.size a + (y a).val = (y a).val
    rw [Nat.zero_mul, Nat.zero_add]
  rw [h4, h5]
  exact congrArg _ hy.symm

/-- The reference's result on core `c`: every row of every sequence. -/
def resultOf : FVec Ideal S1100x2x16x512 .bf16 := fun y =>
  row (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg6)) (m ((c.tc : Thread nD τ).loc main_arg7))
    (m ((c.tc : Thread nD τ).loc main_arg4)) (m ((c.tc : Thread nD τ).loc main_arg5)) (y 0) (y 1) (y 2) (y 3)

/-- The operations after the kernel call compute it. -/
theorem value_eq : Read.val_main_v47 (Value.exitV m c (Proc.devRef .tc main_arg0)) (Value.exitV m c (Proc.devRef .tc main_arg1))
      (Value.exitV m c (Proc.devRef .tc main_arg2)) (Value.exitV m c (Proc.devRef .tc main_arg3)) (Value.exitV m c (Proc.devRef .tc main_arg6))
      (Value.exitV m c (Proc.devRef .tc main_arg7)) (Value.exitV m c (Proc.devRef .tc main_v0)) = resultOf m c := by
  rw [Value.exit_main_arg0, Value.exit_main_arg1, Value.exit_main_arg2, Value.exit_main_arg3, Value.exit_main_arg6, Value.exit_main_arg7,
    Value.exit_main_v0, reg_eq]
  funext (y : S1100x2x16x512.Idx)
  obtain ⟨b, s, q, l, rfl⟩ : ∃ (b : Fin 1100) (s : Fin 2) (q : Fin 16) (l : Fin 512), y = ix4 b s q l := ⟨y 0, y 1, y 2, y 3, ValueIdx.eq_ix4 y⟩
  exact result _ _ _ _ _ _ _ (m ((c.tc : Thread nD τ).loc main_arg4)) (m ((c.tc : Thread nD τ).loc main_arg5)) (fun b p l => latents _ _ b p l) b s q l

variable (ρ : Dev nD → PrngReg)

/-- THE REFERENCE'S RUN: it ends with `resultOf` in the result buffer and the arguments as they were. -/
theorem run : θ_run defs (onTc (τ := τ) (main (F := Ideal))) ⟨m, fun _ => 0, ρ⟩ (fun r => ∀ c : Dev nD,
      r.2.mem ((c.tc : Thread nD τ).loc main_v47) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans ((Read.val_main_v47_eq (Value.exitV m c)).trans (value_eq m c)), (h c).2⟩) (Value.run m ρ)

end Cert.ReferenceIdeal.Hand

end
-- ==== Proof.Pre.lean ====
/- THE PRECONDITION, READ: every scale is a number, zero or more. -/
module

public import proofs.«01_k».proof.Pre_scales_are_scales
public import Idealize.ShloMosaic.Lib.Pointwise

@[expose] public section

set_option maxRecDepth 16384

noncomputable section

namespace Cert.Pre_scales_are_scales

open Idealize.ShloMosaic

/-- The one side condition of the precondition's operations. -/
instance facts : Facts := ⟨by decide⟩

/-- One bit and one bit is one exactly when both are. -/
theorem andi_one (a b : BitVec 1) : IntOp.andi a b = 1#1 ↔ a = 1#1 ∧ b = 1#1 := by revert a b; decide

/-- A comparison's bit is one exactly when the comparison holds. -/
theorem ofBool_one (p : Prop) [Decidable p] : BitVec.ofBool (decide p) = 1#1 ↔ p := by
  by_cases h : p <;> simp [h]

/-- The pattern of the infinite bound. -/
theorem bound_top : Ideal.ofBits .f32 0x7F800000#32 = ⊤ := by simp [Ideal.ofBits, Ideal.ieee]

/-- What the precondition says of the scale of position `p`, group `g` of sequence `b`. -/
theorem scale_of (x0 : FVec Ideal S1100x2x16x512 .bf16) (x1 : FVec Ideal S1100x2x16x64 .bf16) (x2 : FVec Ideal S1100x2x512 .bf16)
    (x3 : FVec Ideal S1100x2x64 .bf16) (x4 : FVec Ideal S1100x640x512 .fp8e4m3) (x5 : FVec Ideal S1100x640x4 .f32) (x6 : FVec Ideal S1100x640x64 .bf16)
    (x7 : IVec S1100 32) (h : fn x0 x1 x2 x3 x4 x5 x6 x7 = fun _ => 1#1) (b : Fin 1100) (p : Fin 640) (g : Fin 4) :
    (0 : EReal) ≤ x5 (ix3 b p g) ∧ x5 (ix3 b p g) ≠ (⊤ : EReal) := by
  have h := congrFun h (ix3 b p g)
  unfold fn at h
  have h := (andi_one _ _).1 h
  have h0 : (Ideal.ofBits .f32 0x00000000#32 : EReal) ≤ x5 (ix3 b p g) := (ofBool_one _).1 h.1
  have h1 : (x5 (ix3 b p g) : EReal) < Ideal.ofBits .f32 0x7F800000#32 := (ofBool_one _).1 h.2
  rw [Ideal.ofBits_zero_f32] at h0
  rw [bound_top] at h1
  exact ⟨h0, ne_of_lt h1⟩

end Cert.Pre_scales_are_scales

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Pipe
public import proofs.«01_k».proof.Proof.Latents
public import proofs.«01_k».proof.Proof.Pre
public import Idealize.ShloMosaic.Adequacy
public import Idealize.ShloMosaic.Init

@[expose] public section

noncomputable section

namespace Cert.Proof

open Idealize.ShloMosaic Idealize.SL.Sem Cert.Kernel

/-- From memories that agree on the arguments, the kernel and the reference compute one result. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Hand.resultOf m' c = Cert.KernelIdeal.Hand.result m c := by
  unfold Cert.ReferenceIdeal.Hand.resultOf Cert.KernelIdeal.Hand.result Cert.KernelIdeal.Hand.rowOf
  rw [h0, h1, h2, h3, h4, h5, h6, h7]

/-- The kernel and the reference, both run at the extended reals from memories that agree on the arguments and whose scales are finite and nonnegative,
    end with one result. -/
theorem algebraic : Cert.algebraic_KernelIdeal_ReferenceIdeal_pre_scales_are_scales := by
  intro m g m' g' hpre h
  refine ⟨fun c => Cert.KernelIdeal.Hand.result m c,
    Cert.KernelIdeal.Hand.run m g (fun c b p q => Cert.Pre_scales_are_scales.scale_of _ _ _ _ _ _ _ _ (hpre c) b p q), ?_⟩
  refine (θ_run Cert.ReferenceIdeal.defs _ _).mono (fun _ hr c => ⟨(hr c).1.trans ?_, (hr c).2⟩) (Cert.ReferenceIdeal.Hand.run m' g')
  obtain ⟨h0, h1, h2, h3, h4, h5, h6, h7⟩ := h c
  exact agree m m' c h0 h1 h2 h3 h4 h5 h6 h7

/-- Every claim. -/
theorem claim : Cert.Claim := ⟨Cert.Kernel.Gen.facts, Cert.KernelIdeal.Gen.facts, Cert.ReferenceIdeal.Gen.facts, Cert.Pre_scales_are_scales.facts,
  fun m ρ _ => Cert.Kernel.Gen.frame m ρ trivial, fun m ρ _ => Cert.KernelIdeal.Gen.frame m ρ trivial,
  fun m ρ _ => Cert.KernelIdeal.Gen.frame m ρ trivial, fun m ρ _ => Cert.ReferenceIdeal.Gen.frame m ρ,
  fun m ρ _ => Cert.ReferenceIdeal.Gen.frame m ρ, trivial, algebraic⟩

end Cert.Proof

end
